-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x768 : Shape := ⟨3, ![1, 2048, 768]⟩
abbrev S10x768 : Shape := ⟨2, ![10, 768]⟩
abbrev S8x768 : Shape := ⟨2, ![8, 768]⟩
abbrev S8 : Shape := ⟨1, ![8]⟩
abbrev S8x768x768 : Shape := ⟨3, ![8, 768, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S10x768 : S_.BroadcastsInDim S10x768 (![] : Fin 0 → Fin S10x768.rank)
  reducesTo_S10x768_S_d0_1 : S10x768.ReducesTo [0, 1] S_
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S1x2048x768 .f32) (main_arg1 : FVec F S10x768 .f32) (main_arg2 : FVec F S8x768 .f32) (main_arg3 : FVec F S8 .f32) (main_arg4 : FVec F S8x768x768 .f32) (main_arg5 : FVec F S8x768 .f32) (main_arg6 : FVec F S8x768x768 .f32) (main_arg7 : FVec F S8x768 .f32) (main_arg8 : IVec S_ 32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S10x768 .f32 := Host.absf main_arg1
  let main_cst_0 : FVec F S_ .f32 := constant S_ .f32 0x7F800000#32
  let main_v5 : FVec F S10x768 .f32 := broadcastInDim S10x768 ![] bcast_S_S10x768 main_cst_0
  let main_v6 : IVec S10x768 1 := cmpf .olt main_v4 main_v5
  let main_c_1 : IVec S_ 1 := constantI S_ 1 1#1
  let main_v7 : IVec S_ 1 := (fun x v => Host.reduce IntOp.andi x v reducesTo_S10x768_S_d0_1 h_S_) main_v6 main_c_1
  let main_v8 : IVec S_ 1 := andi main_v3 main_v7
  let main_v9 : FVec F S8x768 .f32 := Host.absf main_arg2
  let main_cst_2 : FVec F S_ .f32 := constant S_ .f32 0x7F800000#32
  let main_v10 : FVec F S8x768 .f32 := broadcastInDim S8x768 ![] bcast_S_S8x768 main_cst_2
  let main_v11 : IVec S8x768 1 := cmpf .olt main_v9 main_v10
  let main_c_3 : IVec S_ 1 := constantI S_ 1 1#1
  let main_v12 : IVec S_ 1 := (fun x v => Host.reduce IntOp.andi x v reducesTo_S8x768_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S1x2048x768 : Shape := ⟨3, ![1, 2048, 768]⟩
abbrev S10x768 : Shape := ⟨2, ![10, 768]⟩
abbrev S8x768 : Shape := ⟨2, ![8, 768]⟩
abbrev S8 : Shape := ⟨1, ![8]⟩
abbrev S8x768x768 : Shape := ⟨3, ![8, 768, 768]⟩
abbrev S_ : Shape := ⟨0, ![]⟩
abbrev S2048x768 : Shape := ⟨2, ![2048, 768]⟩
abbrev S1x768 : Shape := ⟨2, ![1, 768]⟩
abbrev S1x8 : Shape := ⟨2, ![1, 8]⟩
abbrev S8x1x768 : Shape := ⟨3, ![8, 1, 768]⟩
abbrev S1x768x768 : Shape := ⟨3, ![1, 768, 768]⟩
abbrev S1x1x768 : Shape := ⟨3, ![1, 1, 768]⟩
abbrev S2048x8 : Shape := ⟨2, ![2048, 8]⟩
abbrev S768x8 : Shape := ⟨2, ![768, 8]⟩
abbrev S2048 : Shape := ⟨1, ![2048]⟩
abbrev S2048x1 : Shape := ⟨2, ![2048, 1]⟩
abbrev S768x768 : Shape := ⟨2, ![768, 768]⟩

abbrev nBuf : Space → Nat
  | .hbm => 22
  | .vmem => 14
  | .smem => 0
  | _ => 0

abbrev bufTy : (tb : Table) → Fin (tcTables nBuf tb) → BufTy
  | .hbm, ⟨0, _⟩ => ⟨S1x2048x768, .f32⟩
  | .hbm, ⟨1, _⟩ => ⟨S10x768, .f32⟩
  | .hbm, ⟨2, _⟩ => ⟨S8x768, .f32⟩
  | .hbm, ⟨3, _⟩ => ⟨S8, .f32⟩
  | .hbm, ⟨4, _⟩ => ⟨S8x768x768, .f32⟩
  | .hbm, ⟨5, _⟩ => ⟨S8x768, .f32⟩
  | .hbm, ⟨6, _⟩ => ⟨S8x768x768, .f32⟩
  | .hbm, ⟨7, _⟩ => ⟨S8x768, .f32⟩
  | .hbm, ⟨8, _⟩ => ⟨S_, .i32⟩
  | .hbm, ⟨9, _⟩ => ⟨S2048x768, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1x768, .f32⟩
  | .hbm, ⟨17, _⟩ => ⟨S1x8, .f32⟩
  | .hbm, ⟨18, _⟩ => ⟨S8x1x768, .f32⟩
  | .hbm, ⟨19, _⟩ => ⟨S8x1x768, .f32⟩
  | .hbm, ⟨20, _⟩ => ⟨S2048x768, .f32⟩
  | .hbm, ⟨21, _⟩ => ⟨S1x2048x768, .f32⟩
  | .local _ .vmem, ⟨0, _⟩ => ⟨S2048x768, .f32⟩
  | .local _ .vmem, ⟨1, _⟩ => ⟨S1x768, .f32⟩
  | .local _ .vmem, ⟨2, _⟩ => ⟨S8x768, .f32⟩
  | .local _ .vmem, ⟨3, _⟩ => ⟨S1x8, .f32⟩
  | .local _ .vmem, ⟨4, _⟩ => ⟨S1x768x768, .f32⟩
  | .local _ .vmem, ⟨5, _⟩ => ⟨S1x768x768, .f32⟩
  | .local _ .vmem, ⟨6, _⟩ => ⟨S1x1x768, .f32⟩
  | .local _ .vmem, ⟨7, _⟩ => ⟨S1x1x768, .f32⟩
  | .local _ .vmem, ⟨8, _⟩ => ⟨S1x768x768, .f32⟩
  | .local _ .vmem, ⟨9, _⟩ => ⟨S1x768x768, .f32⟩
  | .local _ .vmem, ⟨10, _⟩ => ⟨S1x1x768, .f32⟩
  | .local _ .vmem, ⟨11, _⟩ => ⟨S1x1x768, .f32⟩
  | .local _ .vmem, ⟨12, _⟩ => ⟨S2048x768, .f32⟩
  | .local _ .vmem, ⟨13, _⟩ => ⟨S2048x8, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_23 : BitVec 32 := 0#32
  let v44 : BitVec 1 := Scalar.cmpi .eq arg0 c0_i32_23
  let v45 : BitVec 32 := Scalar.extui v44
  let c0_i32_24 : BitVec 32 := 0#32
  let v46 : BitVec 1 := Scalar.cmpi .ne v45 c0_i32_24
  v46

def k0_cond3 (i : grid0.Coords) : BitVec 1 :=
  let arg0 : BitVec 32 := BitVec.ofNat 32 (i 0).val
  let c0_i32_25 : BitVec 32 := 0#32
  let v47 : BitVec 1 := Scalar.cmpi .sgt arg0 c0_i32_25
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x768x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x2048x768 : Shape := ⟨3, ![1, 2048, 768]⟩
abbrev S10x768 : Shape := ⟨2, ![10, 768]⟩
abbrev S8x768 : Shape := ⟨2, ![8, 768]⟩
abbrev S8 : Shape := ⟨1, ![8]⟩
abbrev S8x768x768 : Shape := ⟨3, ![8, 768, 768]⟩
abbrev S_ : Shape := ⟨0, ![]⟩
abbrev S1x768 : Shape := ⟨2, ![1, 768]⟩
abbrev S768 : Shape := ⟨1, ![768]⟩
abbrev S1x1x768 : Shape := ⟨3, ![1, 1, 768]⟩
abbrev S1x2048x8 : Shape := ⟨3, ![1, 2048, 8]⟩
abbrev S1x1x8 : Shape := ⟨3, ![1, 1, 8]⟩
abbrev S1x2048x2 : Shape := ⟨3, ![1, 2048, 2]⟩
abbrev S1x2048 : Shape := ⟨2, ![1, 2048]⟩
abbrev S1x2048x1 : Shape := ⟨3, ![1, 2048, 1]⟩
abbrev S1x2048x2x1 : Shape := ⟨4, ![1, 2048, 2, 1]⟩
abbrev S1x1x1x8 : Shape := ⟨4, ![1, 1, 1, 8]⟩
abbrev S1x2048x2x8 : Shape := ⟨4, ![1, 2048, 2, 8]⟩
abbrev S1x2048x8x768 : Shape := ⟨4, ![1, 2048, 8, 768]⟩
abbrev S1x1x8x768 : Shape := ⟨4, ![1, 1, 8, 768]⟩
abbrev S8x768x1x2048 : Shape := ⟨4, ![8, 768, 1, 2048]⟩
abbrev S1x2048x8x1 : Shape := ⟨4, ![1, 2048, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S10x768, .f32⟩
  | .hbm, ⟨2, _⟩ => ⟨S8x768, .f32⟩
  | .hbm, ⟨3, _⟩ => ⟨S8, .f32⟩
  | .hbm, ⟨4, _⟩ => ⟨S8x768x768, .f32⟩
  | .hbm, ⟨5, _⟩ => ⟨S8x768, .f32⟩
  | .hbm, ⟨6, _⟩ => ⟨S8x768x768, .f32⟩
  | .hbm, ⟨7, _⟩ => ⟨S8x768, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x768, .f32⟩
  | .hbm, ⟨23, _⟩ => ⟨S768, .f32⟩
  | .hbm, ⟨24, _⟩ => ⟨S1x1x768, .f32⟩
  | .hbm, ⟨25, _⟩ => ⟨S1x2048x768, .f32⟩
  | .hbm, ⟨26, _⟩ => ⟨S1x2048x768, .f32⟩
  | .hbm, ⟨27, _⟩ => ⟨S1x2048x8, .f32⟩
  | .hbm, ⟨28, _⟩ => ⟨S1x1x8, .f32⟩
  | .hbm, ⟨29, _⟩ => ⟨S1x2048x8, .f32⟩
  | .hbm, ⟨30, _⟩ => ⟨S1x2048x8, .f32⟩
  | .hbm, ⟨31, _⟩ => ⟨S1x2048x2, .f32⟩
  | .hbm, ⟨32, _⟩ => ⟨S1x2048x2, .i32⟩
  | .hbm, ⟨33, _⟩ => ⟨S_, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S1x2048x1, .f32⟩
  | .hbm, ⟨39, _⟩ => ⟨S1x2048x2, .f32⟩
  | .hbm, ⟨40, _⟩ => ⟨S1x2048x2, .f32⟩
  | .hbm, ⟨41, _⟩ => ⟨S1x2048x2, .f32⟩
  | .hbm, ⟨42, _⟩ => ⟨S_, .f32⟩
  | .hbm, ⟨43, _⟩ => ⟨S1x2048, .f32⟩
  | .hbm, ⟨44, _⟩ => ⟨S1x2048x1, .f32⟩
  | .hbm, ⟨45, _⟩ => ⟨S1x2048x2, .f32⟩
  | .hbm, ⟨46, _⟩ => ⟨S1x2048x2, .f32⟩
  | .hbm, ⟨47, _⟩ => ⟨S1x2048x2x1, .i32⟩
  | .hbm, ⟨48, _⟩ => ⟨S1x1x1x8, .i32⟩
  | .hbm, ⟨49, _⟩ => ⟨S1x2048x2x8, .i32⟩
  | .hbm, ⟨50, _⟩ => ⟨S1x2048x2x8, .i32⟩
  | .hbm, ⟨51, _⟩ => ⟨S1x2048x2x8, .i1⟩
  | .hbm, ⟨52, _⟩ => ⟨S1x2048x2x8, .f32⟩
  | .hbm, ⟨53, _⟩ => ⟨S1x2048x2x1, .f32⟩
  | .hbm, ⟨54, _⟩ => ⟨S1x2048x2x8, .f32⟩
  | .hbm, ⟨55, _⟩ => ⟨S1x2048x2x8, .f32⟩
  | .hbm, ⟨56, _⟩ => ⟨S_, .f32⟩
  | .hbm, ⟨57, _⟩ => ⟨S1x2048x8, .f32⟩
  | .hbm, ⟨58, _⟩ => ⟨S1x2048x8x768, .f32⟩
  | .hbm, ⟨59, _⟩ => ⟨S1x1x8x768, .f32⟩
  | .hbm, ⟨60, _⟩ => ⟨S1x2048x8x768, .f32⟩
  | .hbm, ⟨61, _⟩ => ⟨S1x2048x8x768, .f32⟩
  | .hbm, ⟨62, _⟩ => ⟨S1x2048x8x768, .f32⟩
  | .hbm, ⟨63, _⟩ => ⟨S1x2048x8x768, .f32⟩
  | .hbm, ⟨64, _⟩ => ⟨S_, .f32⟩
  | .hbm, ⟨65, _⟩ => ⟨S1x2048x8x768, .f32⟩
  | .hbm, ⟨66, _⟩ => ⟨S1x2048x8x768, .f32⟩
  | .hbm, ⟨67, _⟩ => ⟨S1x2048x8x768, .f32⟩
  | .hbm, ⟨68, _⟩ => ⟨S_, .f32⟩
  | .hbm, ⟨69, _⟩ => ⟨S1x2048x8x768, .f32⟩
  | .hbm, ⟨70, _⟩ => ⟨S1x2048x8x768, .f32⟩
  | .hbm, ⟨71, _⟩ => ⟨S1x2048x8x768, .f32⟩
  | .hbm, ⟨72, _⟩ => ⟨S_, .f32⟩
  | .hbm, ⟨73, _⟩ => ⟨S1x2048x8x768, .f32⟩
  | .hbm, ⟨74, _⟩ => ⟨S1x2048x8x768, .f32⟩
  | .hbm, ⟨75, _⟩ => ⟨S_, .f32⟩
  | .hbm, ⟨76, _⟩ => ⟨S1x2048x8x768, .f32⟩
  | .hbm, ⟨77, _⟩ => ⟨S1x2048x8x768, .f32⟩
  | .hbm, ⟨78, _⟩ => ⟨S1x2048x8x768, .f32⟩
  | .hbm, ⟨79, _⟩ => ⟨S8x768x1x2048, .f32⟩
  | .hbm, ⟨80, _⟩ => ⟨S1x2048x8x768, .f32⟩
  | .hbm, ⟨81, _⟩ => ⟨S1x1x8x768, .f32⟩
  | .hbm, ⟨82, _⟩ => ⟨S1x2048x8x768, .f32⟩
  | .hbm, ⟨83, _⟩ => ⟨S1x2048x8x768, .f32⟩
  | .hbm, ⟨84, _⟩ => ⟨S1x2048x8x1, .f32⟩
  | .hbm, ⟨85, _⟩ => ⟨S1x2048x8x768, .f32⟩
  | .hbm, ⟨86, _⟩ => ⟨S1x2048x8x768, .f32⟩
  | .hbm, ⟨87, _⟩ => ⟨S_, .f32⟩
  | .hbm, ⟨88, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_c_2 : Ref sig .tc := ⟨.hbm, 15, rfl⟩
abbrev main_v3 : Ref sig .tc := ⟨.hbm, 16, rfl⟩
abbrev main_c_3 : Ref sig .tc := ⟨.hbm, 17, rfl⟩
abbrev main_c_4 : Ref sig .tc := ⟨.hbm, 18, rfl⟩
abbrev main_v4 : Ref sig .tc := ⟨.hbm, 19, rfl⟩
abbrev main_c_5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_values : Ref sig .tc := ⟨.hbm, 31, rfl⟩
abbrev main_indices : Ref sig .tc := ⟨.hbm, 32, rfl⟩
abbrev main_cst : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_v44 : Ref sig .tc := ⟨.hbm, 74, rfl⟩
abbrev main_cst_12 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩

abbrev nD : Nat := 1
abbrev τ : Topo := Topo.v7x

variable {F : FTy → Type} [FloatOps F]
-- ==== Proof.KernelRead.lean ====
/- What one grid point of the kernel leaves behind, as a value of the blocks it was given. The body's stores each cover the
   whole of their buffer, and its loads read whole blocks, so the buffers end at the stored values themselves: the first
   point writes the router's weights to the scratch and the first expert's share to the output, every later point adds
   its expert's share to the output and leaves the scratch alone. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- The router's weights: for each row the weight of every expert, from the rows `x`, the gating row `s`, the gating
    matrix `w` and its offsets `b`. -/
def routed (x : Vec F S2048x768 .f32) (s : Vec F S1x768 .f32) (w : Vec F S8x768 .f32) (b : Vec F S1x8 .f32) :
    Vec F S2048x8 .f32 :=
  k0_pay13 (iota .tc S2048x8 32 [1] iota_S2048x8_d1_w32) (k0_pay8 (k0_pay12 x) s w b) (k0_pay9 (k0_pay12 x) s w b) (k0_pay10 (k0_pay12 x) s w b) (k0_pay11 (k0_pay12 x) s w b)
    (Scalar.ofBits .f32 0x00000000#32)

/-- Expert number `i 0`'s share of the output: its value at the rows `x`, weighted by its column of the weights `sc`. -/
def share (i : grid0.Coords) (x : Vec F S2048x768 .f32) (w1 : Vec F S1x768x768 .f32) (c1 : Vec F S1x1x768 .f32)
    (w2 : Vec F S1x768x768 .f32) (c2 : Vec F S1x1x768 .f32) (sc : Vec F S2048x8 .f32) : Vec F S2048x768 .f32 :=
  k0_pay1 (k0_pay14 x w1 c1 w2 c2) (iota .tc S2048x8 32 [1] iota_S2048x8_d1_w32) (k0_pay15 i) sc

/-- The first point leaves the router's weights in the scratch. -/
theorem sout_A (c : Dev nD) (i : grid0.Coords) (a1 : Memref sig .tc .vmem S2048x768 .f32) (h1 : a1.IsWhole) (a2 : Memref sig .tc .vmem S1x768 .f32) (h2 : a2.IsWhole) (a3 : Memref sig .tc .vmem S8x768 .f32) (h3 : a3.IsWhole) (a4 : Memref sig .tc .vmem S1x8 .f32) (h4 : a4.IsWhole) (a5 : Memref sig .tc .vmem S1x768x768 .f32) (h5 : a5.IsWhole) (a6 : Memref sig .tc .vmem S1x1x768 .f32) (h6 : a6.IsWhole) (a7 : Memref sig .tc .vmem S1x768x768 .f32) (h7 : a7.IsWhole) (a8 : Memref sig .tc .vmem S1x1x768 .f32) (h8 : a8.IsWhole) (a9 : Memref sig .tc .vmem S2048x768 .f32) (h9 : a9.IsWhole) (a10 : Memref sig .tc .vmem S2048x8 .f32) (h10 : a10.IsWhole)
    (hc0 : cond0_0 i) (hc1 : cond0_1 i) (hc2 : ¬cond0_2 i)
    (x0 : Vec F S2048x768 .f32) (x1 : Vec F S1x768 .f32) (x2 : Vec F S8x768 .f32) (x3 : Vec F S1x8 .f32) (x4 : Vec F S1x768x768 .f32) (x5 : Vec F S1x1x768 .f32) (x6 : Vec F S1x768x768 .f32) (x7 : Vec F S1x1x768 .f32) :
    sout0_A_0 c i a1 h1 a2 h2 a3 h3 a4 h4 a5 h5 a6 h6 a7 h7 a8 h8 a9 h9 a10 h10 hc0 hc1 hc2 x0 x1 x2 x3 x4 x5 x6 x7 = routed x0 x1 x2 x3 := by
  unfold sout0_A_0
  rw [View.read_writes_eq_canon _ _ _ (scover0_A_0 c i a1 h1 a2 h2 a3 h3 a4 h4 a5 h5 a6 h6 a7 h7 a8 h8 a9 h9 a10 h10 hc0 hc1 hc2 x0 x1 x2 x3 x4 x5 x6 x7)]
  unfold kernelRun0_A
  dsimp only
  sl_unfold_words
  rw [View.canon_unit_zero (S := S2048x8) hz2]
  simp only [View.readAt_eq_ld, Memref.IsWhole.read_unread, View.ld_unit_zero (S := S2048x768) hz2,
    View.ld_unit_zero (S := S1x768) hz2, View.ld_unit_zero (S := S8x768) hz2, View.ld_unit_zero (S := S1x8) hz2,
    shapeCast_self]
  rfl

/-- The first point leaves the first expert's share in the output. -/
theorem out_A (c : Dev nD) (i : grid0.Coords) (a1 : Memref sig .tc .vmem S2048x768 .f32) (h1 : a1.IsWhole) (a2 : Memref sig .tc .vmem S1x768 .f32) (h2 : a2.IsWhole) (a3 : Memref sig .tc .vmem S8x768 .f32) (h3 : a3.IsWhole) (a4 : Memref sig .tc .vmem S1x8 .f32) (h4 : a4.IsWhole) (a5 : Memref sig .tc .vmem S1x768x768 .f32) (h5 : a5.IsWhole) (a6 : Memref sig .tc .vmem S1x1x768 .f32) (h6 : a6.IsWhole) (a7 : Memref sig .tc .vmem S1x768x768 .f32) (h7 : a7.IsWhole) (a8 : Memref sig .tc .vmem S1x1x768 .f32) (h8 : a8.IsWhole) (a9 : Memref sig .tc .vmem S2048x768 .f32) (h9 : a9.IsWhole) (a10 : Memref sig .tc .vmem S2048x8 .f32) (h10 : a10.IsWhole)
    (hc0 : cond0_0 i) (hc1 : cond0_1 i) (hc2 : ¬cond0_2 i)
    (x0 : Vec F S2048x768 .f32) (x1 : Vec F S1x768 .f32) (x2 : Vec F S8x768 .f32) (x3 : Vec F S1x8 .f32) (x4 : Vec F S1x768x768 .f32) (x5 : Vec F S1x1x768 .f32) (x6 : Vec F S1x768x768 .f32) (x7 : Vec F S1x1x768 .f32) :
    out0_A_8 c i a1 h1 a2 h2 a3 h3 a4 h4 a5 h5 a6 h6 a7 h7 a8 h8 a9 h9 a10 h10 hc0 hc1 hc2 x0 x1 x2 x3 x4 x5 x6 x7
      = share i x0 x4 x5 x6 x7 (routed x0 x1 x2 x3) := by
  unfold out0_A_8
  rw [View.read_writes_eq_canon _ _ _ (cover0_A_8 c i a1 h1 a2 h2 a3 h3 a4 h4 a5 h5 a6 h6 a7 h7 a8 h8 a9 h9 a10 h10 hc0 hc1 hc2 x0 x1 x2 x3 x4 x5 x6 x7)]
  unfold kernelRun0_A
  dsimp only
  sl_unfold_words
  rw [View.canon_unit_zero (S := S2048x768) hz2]
  simp only [View.readCov_unit_zero (S := S2048x8) _ hz2, View.readAt_eq_ld, Memref.IsWhole.read_unread,
    View.ld_unit_zero (S := S2048x768) hz2, View.ld_unit_zero (S := S1x768) hz2, View.ld_unit_zero (S := S8x768) hz2,
    View.ld_unit_zero (S := S1x8) hz2, View.ld_unit_zero (S := S1x768x768) hz3, View.ld_unit_zero (S := S1x1x768) hz3,
    shapeCast_self]
  rfl

/-- A later point adds its expert's share to the output. -/
theorem out_B (c : Dev nD) (i : grid0.Coords) (a1 : Memref sig .tc .vmem S2048x768 .f32) (h1 : a1.IsWhole) (a2 : Memref sig .tc .vmem S1x768 .f32) (h2 : a2.IsWhole) (a3 : Memref sig .tc .vmem S8x768 .f32) (h3 : a3.IsWhole) (a4 : Memref sig .tc .vmem S1x8 .f32) (h4 : a4.IsWhole) (a5 : Memref sig .tc .vmem S1x768x768 .f32) (h5 : a5.IsWhole) (a6 : Memref sig .tc .vmem S1x1x768 .f32) (h6 : a6.IsWhole) (a7 : Memref sig .tc .vmem S1x768x768 .f32) (h7 : a7.IsWhole) (a8 : Memref sig .tc .vmem S1x1x768 .f32) (h8 : a8.IsWhole) (a9 : Memref sig .tc .vmem S2048x768 .f32) (h9 : a9.IsWhole) (a10 : Memref sig .tc .vmem S2048x8 .f32) (h10 : a10.IsWhole)
    (hc0 : ¬cond0_0 i) (hc1 : ¬cond0_1 i) (hc2 : cond0_2 i)
    (x0 : Vec F S2048x768 .f32) (x1 : Vec F S1x768 .f32) (x2 : Vec F S8x768 .f32) (x3 : Vec F S1x8 .f32) (x4 : Vec F S1x768x768 .f32) (x5 : Vec F S1x1x768 .f32) (x6 : Vec F S1x768x768 .f32) (x7 : Vec F S1x1x768 .f32)
    (xo8 : Vec F S2048x768 .f32) (xs0 : Vec F S2048x8 .f32) :
    out0_B_8 c i a1 h1 a2 h2 a3 h3 a4 h4 a5 h5 a6 h6 a7 h7 a8 h8 a9 h9 a10 h10 hc0 hc1 hc2 x0 x1 x2 x3 x4 x5 x6 x7 xo8 xs0
      = addf xo8 (share i x0 x4 x5 x6 x7 xs0) := by
  unfold out0_B_8
  rw [View.read_writes_eq_canon _ _ _ (cover0_B_8 c i a1 h1 a2 h2 a3 h3 a4 h4 a5 h5 a6 h6 a7 h7 a8 h8 a9 h9 a10 h10 hc0 hc1 hc2 x0 x1 x2 x3 x4 x5 x6 x7 xo8 xs0)]
  unfold kernelRun0_B
  dsimp only
  sl_unfold_words
  rw [View.canon_unit_zero (S := S2048x768) hz2]
  simp only [View.readAt_eq_ld, Memref.IsWhole.read_unread, View.ld_unit_zero (S := S2048x768) hz2,
    View.ld_unit_zero (S := S2048x8) hz2, View.ld_unit_zero (S := S1x768x768) hz3,
    View.ld_unit_zero (S := S1x1x768) hz3, shapeCast_self]
  unfold k0_pay2
  simp only [shapeCast_self]
  rfl

end Cert.KernelIdeal.Value
-- ==== Proof.RefRun.lean ====
/- The reference program's run: its operations as one straight line, cut into five windows, and what each window leaves
   in the buffer that the next one reads, as a function of the buffers before it. Together they give the run: the result
   buffer holds `refOut` of the arguments, and the arguments are unchanged. -/
module

public import proofs.«01_k».proof.Proof.Gen.ReferenceIdeal
public import Idealize.ShloMosaic.Lib.StableHlo.Run
public import Idealize.ShloMosaic.Lib.StableHlo.RunRead
public import Idealize.ShloMosaic.Lib.Pipeline.Frame
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The operations, in five windows -/

/-- Operations 0 to 21: the scale embedding row, the router logits (`main_v14`). -/
abbrev opsLogits : List (HloOp τ sig (Elt F)) :=
  [ nullary main_c (constantI S_ 32 0#32),
    binary main_arg8 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 10#32),
    binary main_arg8 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg8 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v3 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 768#32),
    binary main_c_3 main_c_4 main_v4 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v3 main_v4 main_c_5 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg1 ![main_v2, main_v5] ⟨S_, .i32⟩ main_v6 ((fun x i => Host.dynamicSlice S1x768 x (fun k => (i k (Shape.Idx.first h_S_)).toInt) sliceFits_S10x768_S1x768) : (⟨S10x768, .f32⟩ : BufTy).Contents (Elt F) → (Fin 2 → (⟨S_, .i32⟩ : BufTy).Contents (Elt F)) → (⟨S1x768, .f32⟩ : BufTy).Contents (Elt F)),
    reshape main_v6 main_v7 (rfl : (.f32 : EltTy) = .f32) shapeCasts_S1x768_S768,
    unary main_v7 main_v8 (broadcastInDim S1x1x768 ![2] bcast_S768_S1x1x768_2 : (⟨S768, .f32⟩ : BufTy).Contents (Elt F) → (⟨S1x1x768, .f32⟩ : BufTy).Contents (Elt F)),
    unary main_v8 main_v9 (broadcastInDim S1x2048x768 ![0, 1, 2] bcast_S1x1x768_S1x2048x768_0_1_2 : (⟨S1x1x768, .f32⟩ : BufTy).Contents (Elt F) → (⟨S1x2048x768, .f32⟩ : BufTy).Contents (Elt F)),
    binary main_arg0 main_v9 main_v10 (addf : (⟨S1x2048x768, .f32⟩ : BufTy).Contents (Elt F) → (⟨S1x2048x768, .f32⟩ : BufTy).Contents (Elt F) → (⟨S1x2048x768, .f32⟩ : BufTy).Contents (Elt F)),
    binary main_v10 main_arg2 main_v11 ((fun l r => Host.dotGeneral dot_S1x2048x768_S8x768_S1x2048x8_2_1_01_0_n_n none l r) : (⟨S1x2048x768, .f32⟩ : BufTy).Contents (Elt F) → (⟨S8x768, .f32⟩ : BufTy).Contents (Elt F) → (⟨S1x2048x8, .f32⟩ : BufTy).Contents (Elt F)),
    unary main_arg3 main_v12 (broadcastInDim S1x1x8 ![2] bcast_S8_S1x1x8_2 : (⟨S8, .f32⟩ : BufTy).Contents (Elt F) → (⟨S1x1x8, .f32⟩ : BufTy).Contents (Elt F)),
    unary main_v12 main_v13 (broadcastInDim S1x2048x8 ![0, 1, 2] bcast_S1x1x8_S1x2048x8_0_1_2 : (⟨S1x1x8, .f32⟩ : BufTy).Contents (Elt F) → (⟨S1x2048x8, .f32⟩ : BufTy).Contents (Elt F)),
    binary main_v11 main_v13 main_v14 (addf : (⟨S1x2048x8, .f32⟩ : BufTy).Contents (Elt F) → (⟨S1x2048x8, .f32⟩ : BufTy).Contents (Elt F) → (⟨S1x2048x8, .f32⟩ : BufTy).Contents (Elt F)) ]

/-- Operations 22 to 48: the two best experts, their softmax weights, the combine scale (`main_v30`). -/
abbrev opsScale : List (HloOp τ sig (Elt F)) :=
  [ unary main_v14 main_values ((fun x => (Host.topK S1x2048x2 2 (FloatOps.cmpfTotal .gt) x sliceFits_S1x2048x8_S1x2048x2).1) : (⟨S1x2048x8, .f32⟩ : BufTy).Contents (Elt F) → (⟨S1x2048x2, .f32⟩ : BufTy).Contents (Elt F)),
    unary main_v14 main_indices ((fun x => (Host.topK S1x2048x2 2 (FloatOps.cmpfTotal .gt) x sliceFits_S1x2048x8_S1x2048x2).2) : (⟨S1x2048x8, .f32⟩ : BufTy).Contents (Elt F) → (⟨S1x2048x2, .i32⟩ : BufTy).Contents (Elt F)),
    nullary main_cst (constant S_ .f32 0xFF800000#32),
    binary main_values main_cst main_v15 ((fun x v => Host.reduce FloatOps.maximumf x v reducesTo_S1x2048x2_S1x2048_d2 h_S_) : (⟨S1x2048x2, .f32⟩ : BufTy).Contents (Elt F) → (⟨S_, .f32⟩ : BufTy).Contents (Elt F) → (⟨S1x2048, .f32⟩ : BufTy).Contents (Elt F)),
    nullary main_cst_6 (constant S_ .f32 0xFF800000#32),
    unary main_cst_6 main_v16 (broadcastInDim S1x2048 ![] bcast_S_S1x2048 : (⟨S_, .f32⟩ : BufTy).Contents (Elt F) → (⟨S1x2048, .f32⟩ : BufTy).Contents (Elt F)),
    binary main_v16 main_v15 main_v17 (maximumf : (⟨S1x2048, .f32⟩ : BufTy).Contents (Elt F) → (⟨S1x2048, .f32⟩ : BufTy).Contents (Elt F) → (⟨S1x2048, .f32⟩ : BufTy).Contents (Elt F)),
    unary main_v17 main_v18 (broadcastInDim S1x2048x1 ![0, 1] bcast_S1x2048_S1x2048x1_0_1 : (⟨S1x2048, .f32⟩ : BufTy).Contents (Elt F) → (⟨S1x2048x1, .f32⟩ : BufTy).Contents (Elt F)),
    unary main_v18 main_v19 (broadcastInDim S1x2048x2 ![0, 1, 2] bcast_S1x2048x1_S1x2048x2_0_1_2 : (⟨S1x2048x1, .f32⟩ : BufTy).Contents (Elt F) → (⟨S1x2048x2, .f32⟩ : BufTy).Contents (Elt F)),
    binary main_values main_v19 main_v20 (subf : (⟨S1x2048x2, .f32⟩ : BufTy).Contents (Elt F) → (⟨S1x2048x2, .f32⟩ : BufTy).Contents (Elt F) → (⟨S1x2048x2, .f32⟩ : BufTy).Contents (Elt F)),
    unary main_v20 main_v21 (Host.exp : (⟨S1x2048x2, .f32⟩ : BufTy).Contents (Elt F) → (⟨S1x2048x2, .f32⟩ : BufTy).Contents (Elt F)),
    nullary main_cst_7 (constant S_ .f32 0x00000000#32),
    binary main_v21 main_cst_7 main_v22 ((fun x v => Host.reduceAdd x v reducesTo_S1x2048x2_S1x2048_d2 h_S_) : (⟨S1x2048x2, .f32⟩ : BufTy).Contents (Elt F) → (⟨S_, .f32⟩ : BufTy).Contents (Elt F) → (⟨S1x2048, .f32⟩ : BufTy).Contents (Elt F)),
    unary main_v22 main_v23 (broadcastInDim S1x2048x1 ![0, 1] bcast_S1x2048_S1x2048x1_0_1 : (⟨S1x2048, .f32⟩ : BufTy).Contents (Elt F) → (⟨S1x2048x1, .f32⟩ : BufTy).Contents (Elt F)),
    unary main_v23 main_v24 (broadcastInDim S1x2048x2 ![0, 1, 2] bcast_S1x2048x1_S1x2048x2_0_1_2 : (⟨S1x2048x1, .f32⟩ : BufTy).Contents (Elt F) → (⟨S1x2048x2, .f32⟩ : BufTy).Contents (Elt F)),
    binary main_v21 main_v24 main_v25 (Host.divf : (⟨S1x2048x2, .f32⟩ : BufTy).Contents (Elt F) → (⟨S1x2048x2, .f32⟩ : BufTy).Contents (Elt F) → (⟨S1x2048x2, .f32⟩ : BufTy).Contents (Elt F)),
    TRef.unary (TRef.of (T := ⟨S1x2048x2, .i32⟩) main_indices) (TRef.of (T := ⟨S1x2048x2x1, .i32⟩) main_call0_v0) (broadcastInDim S1x2048x2x1 ![0, 1, 2] bcast_S1x2048x2_S1x2048x2x1_0_1_2),
    TRef.nullary (TRef.of (T := ⟨S1x1x1x8, .i32⟩) main_call0_v1) (iotaInDim S1x1x1x8 32 3),
    TRef.unary (TRef.of (T := ⟨S1x2048x2x1, .i32⟩) main_call0_v0) (TRef.of (T := ⟨S1x2048x2x8, .i32⟩) main_call0_v2) (broadcastInDim S1x2048x2x8 ![0, 1, 2, 3] bcast_S1x2048x2x1_S1x2048x2x8_0_1_2_3),
    TRef.unary (TRef.of (T := ⟨S1x1x1x8, .i32⟩) main_call0_v1) (TRef.of (T := ⟨S1x2048x2x8, .i32⟩) main_call0_v3) (broadcastInDim S1x2048x2x8 ![0, 1, 2, 3] bcast_S1x1x1x8_S1x2048x2x8_0_1_2_3),
    TRef.binary (TRef.of (T := ⟨S1x2048x2x8, .i32⟩) main_call0_v2) (TRef.of (T := ⟨S1x2048x2x8, .i32⟩) main_call0_v3) (TRef.of (T := ⟨S1x2048x2x8, .i1⟩) main_call0_v4) (cmpi .eq),
    TRef.unary (TRef.of (T := ⟨S1x2048x2x8, .i1⟩) main_call0_v4) (TRef.of (T := ⟨S1x2048x2x8, .f32⟩) main_v26) (uitofp .f32),
    unary main_v25 main_v27 (broadcastInDim S1x2048x2x1 ![0, 1, 2] bcast_S1x2048x2_S1x2048x2x1_0_1_2 : (⟨S1x2048x2, .f32⟩ : BufTy).Contents (Elt F) → (⟨S1x2048x2x1, .f32⟩ : BufTy).Contents (Elt F)),
    unary main_v27 main_v28 (broadcastInDim S1x2048x2x8 ![0, 1, 2, 3] bcast_S1x2048x2x1_S1x2048x2x8_0_1_2_3 : (⟨S1x2048x2x1, .f32⟩ : BufTy).Contents (Elt F) → (⟨S1x2048x2x8, .f32⟩ : BufTy).Contents (Elt F)),
    binary main_v26 main_v28 main_v29 (mulf : (⟨S1x2048x2x8, .f32⟩ : BufTy).Contents (Elt F) → (⟨S1x2048x2x8, .f32⟩ : BufTy).Contents (Elt F) → (⟨S1x2048x2x8, .f32⟩ : BufTy).Contents (Elt F)),
    nullary main_cst_8 (constant S_ .f32 0x00000000#32),
    binary main_v29 main_cst_8 main_v30 ((fun x v => Host.reduceAdd x v reducesTo_S1x2048x2x8_S1x2048x8_d2 h_S_) : (⟨S1x2048x2x8, .f32⟩ : BufTy).Contents (Elt F) → (⟨S_, .f32⟩ : BufTy).Contents (Elt F) → (⟨S1x2048x8, .f32⟩ : BufTy).Contents (Elt F)) ]

/-- Operations 49 to 52: the hidden layer before its activation (`main_v34`). -/
abbrev opsHidden : List (HloOp τ sig (Elt F)) :=
  [ binary main_arg0 main_arg4 main_v31 ((fun l r => Host.dotGeneral dot_S1x2048x768_S8x768x768_S1x2048x8x768_2_2_01_01_n_n none l r) : (⟨S1x2048x768, .f32⟩ : BufTy).Contents (Elt F) → (⟨S8x768x768, .f32⟩ : BufTy).Contents (Elt F) → (⟨S1x2048x8x768, .f32⟩ : BufTy).Contents (Elt F)),
    unary main_arg5 main_v32 (broadcastInDim S1x1x8x768 ![2, 3] bcast_S8x768_S1x1x8x768_2_3 : (⟨S8x768, .f32⟩ : BufTy).Contents (Elt F) → (⟨S1x1x8x768, .f32⟩ : BufTy).Contents (Elt F)),
    unary main_v32 main_v33 (broadcastInDim S1x2048x8x768 ![0, 1, 2, 3] bcast_S1x1x8x768_S1x2048x8x768_0_1_2_3 : (⟨S1x1x8x768, .f32⟩ : BufTy).Contents (Elt F) → (⟨S1x2048x8x768, .f32⟩ : BufTy).Contents (Elt F)),
    binary main_v31 main_v33 main_v34 (addf : (⟨S1x2048x8x768, .f32⟩ : BufTy).Contents (Elt F) → (⟨S1x2048x8x768, .f32⟩ : BufTy).Contents (Elt F) → (⟨S1x2048x8x768, .f32⟩ : BufTy).Contents (Elt F)) ]

/-- Operations 53 to 69: the activation (`main_v47`). -/
abbrev opsGelu : List (HloOp τ sig (Elt F)) :=
  [ binary main_v34 main_v34 main_v35 (mulf : (⟨S1x2048x8x768, .f32⟩ : BufTy).Contents (Elt F) → (⟨S1x2048x8x768, .f32⟩ : BufTy).Contents (Elt F) → (⟨S1x2048x8x768, .f32⟩ : BufTy).Contents (Elt F)),
    binary main_v35 main_v34 main_v36 (mulf : (⟨S1x2048x8x768, .f32⟩ : BufTy).Contents (Elt F) → (⟨S1x2048x8x768, .f32⟩ : BufTy).Contents (Elt F) → (⟨S1x2048x8x768, .f32⟩ : BufTy).Contents (Elt F)),
    nullary main_cst_9 (constant S_ .f32 0x3D372713#32),
    unary main_cst_9 main_v37 (broadcastInDim S1x2048x8x768 ![] bcast_S_S1x2048x8x768 : (⟨S_, .f32⟩ : BufTy).Contents (Elt F) → (⟨S1x2048x8x768, .f32⟩ : BufTy).Contents (Elt F)),
    binary main_v37 main_v36 main_v38 (mulf : (⟨S1x2048x8x768, .f32⟩ : BufTy).Contents (Elt F) → (⟨S1x2048x8x768, .f32⟩ : BufTy).Contents (Elt F) → (⟨S1x2048x8x768, .f32⟩ : BufTy).Contents (Elt F)),
    binary main_v34 main_v38 main_v39 (addf : (⟨S1x2048x8x768, .f32⟩ : BufTy).Contents (Elt F) → (⟨S1x2048x8x768, .f32⟩ : BufTy).Contents (Elt F) → (⟨S1x2048x8x768, .f32⟩ : BufTy).Contents (Elt F)),
    nullary main_cst_10 (constant S_ .f32 0x3F4C422A#32),
    unary main_cst_10 main_v40 (broadcastInDim S1x2048x8x768 ![] bcast_S_S1x2048x8x768 : (⟨S_, .f32⟩ : BufTy).Contents (Elt F) → (⟨S1x2048x8x768, .f32⟩ : BufTy).Contents (Elt F)),
    binary main_v40 main_v39 main_v41 (mulf : (⟨S1x2048x8x768, .f32⟩ : BufTy).Contents (Elt F) → (⟨S1x2048x8x768, .f32⟩ : BufTy).Contents (Elt F) → (⟨S1x2048x8x768, .f32⟩ : BufTy).Contents (Elt F)),
    unary main_v41 main_v42 (Host.tanh : (⟨S1x2048x8x768, .f32⟩ : BufTy).Contents (Elt F) → (⟨S1x2048x8x768, .f32⟩ : BufTy).Contents (Elt F)),
    nullary main_cst_11 (constant S_ .f32 0x3F800000#32),
    unary main_cst_11 main_v43 (broadcastInDim S1x2048x8x768 ![] bcast_S_S1x2048x8x768 : (⟨S_, .f32⟩ : BufTy).Contents (Elt F) → (⟨S1x2048x8x768, .f32⟩ : BufTy).Contents (Elt F)),
    binary main_v43 main_v42 main_v44 (addf : (⟨S1x2048x8x768, .f32⟩ : BufTy).Contents (Elt F) → (⟨S1x2048x8x768, .f32⟩ : BufTy).Contents (Elt F) → (⟨S1x2048x8x768, .f32⟩ : BufTy).Contents (Elt F)),
    nullary main_cst_12 (constant S_ .f32 0x3F000000#32),
    unary main_cst_12 main_v45 (broadcastInDim S1x2048x8x768 ![] bcast_S_S1x2048x8x768 : (⟨S_, .f32⟩ : BufTy).Contents (Elt F) → (⟨S1x2048x8x768, .f32⟩ : BufTy).Contents (Elt F)),
    binary main_v45 main_v44 main_v46 (mulf : (⟨S1x2048x8x768, .f32⟩ : BufTy).Contents (Elt F) → (⟨S1x2048x8x768, .f32⟩ : BufTy).Contents (Elt F) → (⟨S1x2048x8x768, .f32⟩ : BufTy).Contents (Elt F)),
    binary main_v34 main_v46 main_v47 (mulf : (⟨S1x2048x8x768, .f32⟩ : BufTy).Contents (Elt F) → (⟨S1x2048x8x768, .f32⟩ : BufTy).Contents (Elt F) → (⟨S1x2048x8x768, .f32⟩ : BufTy).Contents (Elt F)) ]

/-- Operations 70 to 79: the output layer, scaled and summed over the experts (`main_v56`). -/
abbrev opsOut : List (HloOp τ sig (Elt F)) :=
  [ binary main_arg6 main_v47 main_v48 ((fun l r => Host.dotGeneral dot_S8x768x768_S1x2048x8x768_S8x768x1x2048_2_3_1_01_0_2 none l r) : (⟨S8x768x768, .f32⟩ : BufTy).Contents (Elt F) → (⟨S1x2048x8x768, .f32⟩ : BufTy).Contents (Elt F) → (⟨S8x768x1x2048, .f32⟩ : BufTy).Contents (Elt F)),
    unary main_v48 main_v49 ((transpose S1x2048x8x768 [2, 3, 0, 1] · transposes_S8x768x1x2048_S1x2048x8x768_2_3_0_1) : (⟨S8x768x1x2048, .f32⟩ : BufTy).Contents (Elt F) → (⟨S1x2048x8x768, .f32⟩ : BufTy).Contents (Elt F)),
    unary main_arg7 main_v50 (broadcastInDim S1x1x8x768 ![2, 3] bcast_S8x768_S1x1x8x768_2_3 : (⟨S8x768, .f32⟩ : BufTy).Contents (Elt F) → (⟨S1x1x8x768, .f32⟩ : BufTy).Contents (Elt F)),
    unary main_v50 main_v51 (broadcastInDim S1x2048x8x768 ![0, 1, 2, 3] bcast_S1x1x8x768_S1x2048x8x768_0_1_2_3 : (⟨S1x1x8x768, .f32⟩ : BufTy).Contents (Elt F) → (⟨S1x2048x8x768, .f32⟩ : BufTy).Contents (Elt F)),
    binary main_v49 main_v51 main_v52 (addf : (⟨S1x2048x8x768, .f32⟩ : BufTy).Contents (Elt F) → (⟨S1x2048x8x768, .f32⟩ : BufTy).Contents (Elt F) → (⟨S1x2048x8x768, .f32⟩ : BufTy).Contents (Elt F)),
    unary main_v30 main_v53 (broadcastInDim S1x2048x8x1 ![0, 1, 2] bcast_S1x2048x8_S1x2048x8x1_0_1_2 : (⟨S1x2048x8, .f32⟩ : BufTy).Contents (Elt F) → (⟨S1x2048x8x1, .f32⟩ : BufTy).Contents (Elt F)),
    unary main_v53 main_v54 (broadcastInDim S1x2048x8x768 ![0, 1, 2, 3] bcast_S1x2048x8x1_S1x2048x8x768_0_1_2_3 : (⟨S1x2048x8x1, .f32⟩ : BufTy).Contents (Elt F) → (⟨S1x2048x8x768, .f32⟩ : BufTy).Contents (Elt F)),
    binary main_v52 main_v54 main_v55 (mulf : (⟨S1x2048x8x768, .f32⟩ : BufTy).Contents (Elt F) → (⟨S1x2048x8x768, .f32⟩ : BufTy).Contents (Elt F) → (⟨S1x2048x8x768, .f32⟩ : BufTy).Contents (Elt F)),
    nullary main_cst_13 (constant S_ .f32 0x00000000#32),
    binary main_v55 main_cst_13 main_v56 ((fun x v => Host.reduceAdd x v reducesTo_S1x2048x8x768_S1x2048x768_d2 h_S_) : (⟨S1x2048x8x768, .f32⟩ : BufTy).Contents (Elt F) → (⟨S_, .f32⟩ : BufTy).Contents (Elt F) → (⟨S1x2048x768, .f32⟩ : BufTy).Contents (Elt F)) ]

/-- The whole program, its windows in order. -/
abbrev ops : List (HloOp τ sig (Elt F)) := opsLogits ++ (opsScale ++ (opsHidden ++ (opsGelu ++ opsOut)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., binary_bufs_sub .., unary_bufs_sub .., unary_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., nullary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., unary_bufs_sub .., binary_bufs_sub .., unary_bufs_sub .., unary_bufs_sub .., binary_bufs_sub .., nullary_bufs_sub .., binary_bufs_sub ..⟩
set_option maxRecDepth 8192 in
theorem ops_fresh : ∀ op ∈ (ops : List (HloOp τ sig (Elt F))), op.fresh = ∅ := by
  intro op h
  fin_cases h <;> rfl

/-! ## What each window computes -/

/-- The row of the scale embedding table the router adds: `scale_idx` counted from the end when negative, then clamped to the
    table. -/
def refScaleRow (a1 : (⟨S10x768, .f32⟩ : BufTy).Contents (Elt F)) (a8 : (⟨S_, .i32⟩ : BufTy).Contents (Elt F)) :
    (⟨S1x768, .f32⟩ : BufTy).Contents (Elt F) :=
  Host.dynamicSlice S1x768 a1
    (fun k => (((![select (cmpi .slt a8 (constantI S_ 32 0#32)) (addi a8 (constantI S_ 32 10#32)) a8,
        select (cmpi .slt (constantI S_ 32 0#32) (constantI S_ 32 0#32)) (addi (constantI S_ 32 0#32) (constantI S_ 32 768#32)) (constantI S_ 32 0#32)]
      : Fin 2 → (⟨S_, .i32⟩ : BufTy).Contents (Elt F)) k) (Shape.Idx.first h_S_)).toInt) sliceFits_S10x768_S1x768

/-- The router's logits `(x + scale_emb[scale_idx]) · Wrᵀ + br`. -/
def refLogits (a0 : (⟨S1x2048x768, .f32⟩ : BufTy).Contents (Elt F)) (a1 : (⟨S10x768, .f32⟩ : BufTy).Contents (Elt F))
    (a2 : (⟨S8x768, .f32⟩ : BufTy).Contents (Elt F)) (a3 : (⟨S8, .f32⟩ : BufTy).Contents (Elt F))
    (a8 : (⟨S_, .i32⟩ : BufTy).Contents (Elt F)) : (⟨S1x2048x8, .f32⟩ : BufTy).Contents (Elt F) :=
  addf (Host.dotGeneral dot_S1x2048x768_S8x768_S1x2048x8_2_1_01_0_n_n none
      (addf a0 (broadcastInDim S1x2048x768 ![0, 1, 2] bcast_S1x1x768_S1x2048x768_0_1_2
        (broadcastInDim S1x1x768 ![2] bcast_S768_S1x1x768_2 (shapeCast _ (refScaleRow a1 a8) shapeCasts_S1x768_S768)))) a2)
    (broadcastInDim S1x2048x8 ![0, 1, 2] bcast_S1x1x8_S1x2048x8_0_1_2 (broadcastInDim S1x1x8 ![2] bcast_S8_S1x1x8_2 a3))

/-- The two largest logits of each token. -/
def refTop (L : (⟨S1x2048x8, .f32⟩ : BufTy).Contents (Elt F)) : (⟨S1x2048x2, .f32⟩ : BufTy).Contents (Elt F) :=
  (Host.topK S1x2048x2 2 (FloatOps.cmpfTotal .gt) L sliceFits_S1x2048x8_S1x2048x2).1

/-- Their experts. -/
def refTopIdx (L : (⟨S1x2048x8, .f32⟩ : BufTy).Contents (Elt F)) : (⟨S1x2048x2, .i32⟩ : BufTy).Contents (Elt F) :=
  (Host.topK S1x2048x2 2 (FloatOps.cmpfTotal .gt) L sliceFits_S1x2048x8_S1x2048x2).2

/-- The softmax's numerators, over the two largest logits. -/
def refExp (t : (⟨S1x2048x2, .f32⟩ : BufTy).Contents (Elt F)) : (⟨S1x2048x2, .f32⟩ : BufTy).Contents (Elt F) :=
  Host.exp (subf t (broadcastInDim S1x2048x2 ![0, 1, 2] bcast_S1x2048x1_S1x2048x2_0_1_2
    (broadcastInDim S1x2048x1 ![0, 1] bcast_S1x2048_S1x2048x1_0_1
      (maximumf (broadcastInDim S1x2048 ![] bcast_S_S1x2048 (constant S_ .f32 0xFF800000#32))
        (Host.reduce FloatOps.maximumf t (constant S_ .f32 0xFF800000#32) reducesTo_S1x2048x2_S1x2048_d2 h_S_)))))

/-- The softmax from its numerators. -/
def refWeights (p : (⟨S1x2048x2, .f32⟩ : BufTy).Contents (Elt F)) : (⟨S1x2048x2, .f32⟩ : BufTy).Contents (Elt F) :=
  Host.divf p (broadcastInDim S1x2048x2 ![0, 1, 2] bcast_S1x2048x1_S1x2048x2_0_1_2
    (broadcastInDim S1x2048x1 ![0, 1] bcast_S1x2048_S1x2048x1_0_1
      (Host.reduceAdd p (constant S_ .f32 0x00000000#32) reducesTo_S1x2048x2_S1x2048_d2 h_S_)))

/-- The combine scale: the weights `w` scattered to their experts `i` by a one-hot sum. -/
def refCombine (i : (⟨S1x2048x2, .i32⟩ : BufTy).Contents (Elt F)) (w : (⟨S1x2048x2, .f32⟩ : BufTy).Contents (Elt F)) :
    (⟨S1x2048x8, .f32⟩ : BufTy).Contents (Elt F) :=
  Host.reduceAdd (mulf
      (uitofp .f32 (cmpi .eq
        (broadcastInDim S1x2048x2x8 ![0, 1, 2, 3] bcast_S1x2048x2x1_S1x2048x2x8_0_1_2_3
          (broadcastInDim S1x2048x2x1 ![0, 1, 2] bcast_S1x2048x2_S1x2048x2x1_0_1_2 i))
        (broadcastInDim S1x2048x2x8 ![0, 1, 2, 3] bcast_S1x1x1x8_S1x2048x2x8_0_1_2_3 (iotaInDim S1x1x1x8 32 3))))
      (broadcastInDim S1x2048x2x8 ![0, 1, 2, 3] bcast_S1x2048x2x1_S1x2048x2x8_0_1_2_3
        (broadcastInDim S1x2048x2x1 ![0, 1, 2] bcast_S1x2048x2_S1x2048x2x1_0_1_2 w)))
    (constant S_ .f32 0x00000000#32) reducesTo_S1x2048x2x8_S1x2048x8_d2 h_S_

/-- The combine scale from the logits. -/
def refScale (L : (⟨S1x2048x8, .f32⟩ : BufTy).Contents (Elt F)) : (⟨S1x2048x8, .f32⟩ : BufTy).Contents (Elt F) :=
  refCombine (refTopIdx L) (refWeights (refExp (refTop L)))

/-- Every expert's hidden layer before its activation. -/
def refHidden (a0 : (⟨S1x2048x768, .f32⟩ : BufTy).Contents (Elt F)) (a4 : (⟨S8x768x768, .f32⟩ : BufTy).Contents (Elt F))
    (a5 : (⟨S8x768, .f32⟩ : BufTy).Contents (Elt F)) : (⟨S1x2048x8x768, .f32⟩ : BufTy).Contents (Elt F) :=
  addf (Host.dotGeneral dot_S1x2048x768_S8x768x768_S1x2048x8x768_2_2_01_01_n_n none a0 a4)
    (broadcastInDim S1x2048x8x768 ![0, 1, 2, 3] bcast_S1x1x8x768_S1x2048x8x768_0_1_2_3
      (broadcastInDim S1x1x8x768 ![2, 3] bcast_S8x768_S1x1x8x768_2_3 a5))

/-- The activation: the tanh approximation of GELU. -/
def refGelu (h : (⟨S1x2048x8x768, .f32⟩ : BufTy).Contents (Elt F)) : (⟨S1x2048x8x768, .f32⟩ : BufTy).Contents (Elt F) :=
  mulf h (mulf (broadcastInDim S1x2048x8x768 ![] bcast_S_S1x2048x8x768 (constant S_ .f32 0x3F000000#32))
    (addf (broadcastInDim S1x2048x8x768 ![] bcast_S_S1x2048x8x768 (constant S_ .f32 0x3F800000#32))
      (Host.tanh (mulf (broadcastInDim S1x2048x8x768 ![] bcast_S_S1x2048x8x768 (constant S_ .f32 0x3F4C422A#32))
        (addf h (mulf (broadcastInDim S1x2048x8x768 ![] bcast_S_S1x2048x8x768 (constant S_ .f32 0x3D372713#32))
          (mulf (mulf h h) h)))))))

/-- Every expert's output, scaled by the combine scale and summed over the experts. -/
def refSum (a6 : (⟨S8x768x768, .f32⟩ : BufTy).Contents (Elt F)) (a7 : (⟨S8x768, .f32⟩ : BufTy).Contents (Elt F))
    (g : (⟨S1x2048x8x768, .f32⟩ : BufTy).Contents (Elt F)) (s : (⟨S1x2048x8, .f32⟩ : BufTy).Contents (Elt F)) :
    (⟨S1x2048x768, .f32⟩ : BufTy).Contents (Elt F) :=
  Host.reduceAdd (mulf
      (addf (transpose S1x2048x8x768 [2, 3, 0, 1]
          (Host.dotGeneral dot_S8x768x768_S1x2048x8x768_S8x768x1x2048_2_3_1_01_0_2 none a6 g)
          transposes_S8x768x1x2048_S1x2048x8x768_2_3_0_1)
        (broadcastInDim S1x2048x8x768 ![0, 1, 2, 3] bcast_S1x1x8x768_S1x2048x8x768_0_1_2_3
          (broadcastInDim S1x1x8x768 ![2, 3] bcast_S8x768_S1x1x8x768_2_3 a7)))
      (broadcastInDim S1x2048x8x768 ![0, 1, 2, 3] bcast_S1x2048x8x1_S1x2048x8x768_0_1_2_3
        (broadcastInDim S1x2048x8x1 ![0, 1, 2] bcast_S1x2048x8_S1x2048x8x1_0_1_2 s)))
    (constant S_ .f32 0x00000000#32) reducesTo_S1x2048x8x768_S1x2048x768_d2 h_S_

/-- The reference's result as a function of its arguments. -/
def refOut (a0 : (⟨S1x2048x768, .f32⟩ : BufTy).Contents (Elt F)) (a1 : (⟨S10x768, .f32⟩ : BufTy).Contents (Elt F))
    (a2 : (⟨S8x768, .f32⟩ : BufTy).Contents (Elt F)) (a3 : (⟨S8, .f32⟩ : BufTy).Contents (Elt F))
    (a4 : (⟨S8x768x768, .f32⟩ : BufTy).Contents (Elt F)) (a5 : (⟨S8x768, .f32⟩ : BufTy).Contents (Elt F))
    (a6 : (⟨S8x768x768, .f32⟩ : BufTy).Contents (Elt F)) (a7 : (⟨S8x768, .f32⟩ : BufTy).Contents (Elt F))
    (a8 : (⟨S_, .i32⟩ : BufTy).Contents (Elt F)) : (⟨S1x2048x768, .f32⟩ : BufTy).Contents (Elt F) :=
  refSum a6 a7 (refGelu (refHidden a0 a4 a5)) (refScale (refLogits a0 a1 a2 a3 a8))

/-! ## Each window's reads -/

/-- The first window leaves the logits. -/
theorem read_logits (W : Valuation τ sig (Elt F)) :
    after opsLogits W (Proc.devRef .tc main_v14)
      = refLogits (W (Proc.devRef .tc main_arg0)) (W (Proc.devRef .tc main_arg1)) (W (Proc.devRef .tc main_arg2))
          (W (Proc.devRef .tc main_arg3)) (W (Proc.devRef .tc main_arg8)) := by
  after_reads_simp [unaryIndexed_result_read, indexContents_cons, indexContents_empty]
  rfl

/-- The second leaves the combine scale. -/
theorem read_scale (W : Valuation τ sig (Elt F)) :
    after opsScale W (Proc.devRef .tc main_v30) = refScale (W (Proc.devRef .tc main_v14)) := by
  after_reads_simp
  rfl

/-- The third leaves the hidden layer. -/
theorem read_hidden (W : Valuation τ sig (Elt F)) :
    after opsHidden W (Proc.devRef .tc main_v34)
      = refHidden (W (Proc.devRef .tc main_arg0)) (W (Proc.devRef .tc main_arg4)) (W (Proc.devRef .tc main_arg5)) := by
  after_reads_simp
  rfl

/-- The fourth leaves the activated layer. -/
theorem read_gelu (W : Valuation τ sig (Elt F)) :
    after opsGelu W (Proc.devRef .tc main_v47) = refGelu (W (Proc.devRef .tc main_v34)) := by
  after_reads_simp
  rfl

/-- The last leaves the result. -/
theorem read_sum (W : Valuation τ sig (Elt F)) :
    after opsOut W (Proc.devRef .tc main_v56)
      = refSum (W (Proc.devRef .tc main_arg6)) (W (Proc.devRef .tc main_arg7)) (W (Proc.devRef .tc main_v47))
          (W (Proc.devRef .tc main_v30)) := by
  after_reads_simp
  rfl

/-! ## What each window leaves alone -/

/-- The buffers `opsLogits` writes. -/
abbrev opsLogitsW : List (Ref sig .tc) := [main_c, main_v0, main_c_0, main_v1, main_v2, main_c_1, main_c_2, main_v3, main_c_3, main_c_4, main_v4, main_c_5, main_v5, main_v6, main_v7, main_v8, main_v9, main_v10, main_v11, main_v12, main_v13, main_v14]
theorem keep_opsLogits {r : Ref sig .tc} (W : Valuation τ sig (Elt F)) (h : r ∉ opsLogitsW) :
    after opsLogits W (Proc.devRef .tc r) = W (Proc.devRef .tc r) :=
  after_of_writes_sub _ W (forall_writes_sub_of_map rfl) h

/-- The buffers `opsScale` writes. -/
abbrev opsScaleW : List (Ref sig .tc) := [main_values, main_indices, main_cst, main_v15, main_cst_6, main_v16, main_v17, main_v18, main_v19, main_v20, main_v21, main_cst_7, main_v22, main_v23, main_v24, main_v25, main_call0_v0, main_call0_v1, main_call0_v2, main_call0_v3, main_call0_v4, main_v26, main_v27, main_v28, main_v29, main_cst_8, main_v30]
theorem keep_opsScale {r : Ref sig .tc} (W : Valuation τ sig (Elt F)) (h : r ∉ opsScaleW) :
    after opsScale W (Proc.devRef .tc r) = W (Proc.devRef .tc r) :=
  after_of_writes_sub _ W (forall_writes_sub_of_map rfl) h

/-- The buffers `opsHidden` writes. -/
abbrev opsHiddenW : List (Ref sig .tc) := [main_v31, main_v32, main_v33, main_v34]
theorem keep_opsHidden {r : Ref sig .tc} (W : Valuation τ sig (Elt F)) (h : r ∉ opsHiddenW) :
    after opsHidden W (Proc.devRef .tc r) = W (Proc.devRef .tc r) :=
  after_of_writes_sub _ W (forall_writes_sub_of_map rfl) h

/-- The buffers `opsGelu` writes. -/
abbrev opsGeluW : List (Ref sig .tc) := [main_v35, main_v36, main_cst_9, main_v37, main_v38, main_v39, main_cst_10, main_v40, main_v41, main_v42, main_cst_11, main_v43, main_v44, main_cst_12, main_v45, main_v46, main_v47]
theorem keep_opsGelu {r : Ref sig .tc} (W : Valuation τ sig (Elt F)) (h : r ∉ opsGeluW) :
    after opsGelu W (Proc.devRef .tc r) = W (Proc.devRef .tc r) :=
  after_of_writes_sub _ W (forall_writes_sub_of_map rfl) h

/-- The buffers `opsOut` writes. -/
abbrev opsOutW : List (Ref sig .tc) := [main_v48, main_v49, main_v50, main_v51, main_v52, main_v53, main_v54, main_v55, main_cst_13, main_v56]
theorem keep_opsOut {r : Ref sig .tc} (W : Valuation τ sig (Elt F)) (h : r ∉ opsOutW) :
    after opsOut W (Proc.devRef .tc r) = W (Proc.devRef .tc r) :=
  after_of_writes_sub _ W (forall_writes_sub_of_map rfl) h

/-- No argument is written by any window. -/
theorem keep_arg {r : Ref sig .tc} (W : Valuation τ sig (Elt F))
    (h : r ∈ [main_arg0, main_arg1, main_arg2, main_arg3, main_arg4, main_arg5, main_arg6, main_arg7, main_arg8]) :
    after opsLogits W (Proc.devRef .tc r) = W (Proc.devRef .tc r)
    ∧ after opsScale W (Proc.devRef .tc r) = W (Proc.devRef .tc r)
    ∧ after opsHidden W (Proc.devRef .tc r) = W (Proc.devRef .tc r)
    ∧ after opsGelu W (Proc.devRef .tc r) = W (Proc.devRef .tc r)
    ∧ after opsOut W (Proc.devRef .tc r) = W (Proc.devRef .tc r) := by
  refine ⟨keep_opsLogits W ?_, keep_opsScale W ?_, keep_opsHidden W ?_, keep_opsGelu W ?_, keep_opsOut W ?_⟩ <;>
    · revert r; decide

/-- No argument is written by the program. -/
theorem ops_arg {r : Ref sig .tc} (W : Valuation τ sig (Elt F))
    (h : r ∈ [main_arg0, main_arg1, main_arg2, main_arg3, main_arg4, main_arg5, main_arg6, main_arg7, main_arg8]) :
    after ops W (Proc.devRef .tc r) = W (Proc.devRef .tc r) := by
  rw [after_append, after_append, after_append, after_append, (keep_arg _ h).2.2.2.2, (keep_arg _ h).2.2.2.1,
    (keep_arg _ h).2.2.1, (keep_arg _ h).2.1, (keep_arg _ h).1]

/-- The program leaves `refOut` of its arguments in the result buffer. -/
theorem ops_result (W : Valuation τ sig (Elt F)) :
    after ops W (Proc.devRef .tc main_v56)
      = refOut (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  rw [after_append, after_append, after_append, after_append, read_sum, read_gelu, read_hidden,
    keep_opsGelu (r := main_v30) _ (by decide), keep_opsHidden (r := main_v30) _ (by decide), read_scale, read_logits]
  have hA : ∀ r ∈ [main_arg0, main_arg1, main_arg2, main_arg3, main_arg4, main_arg5, main_arg6, main_arg7, main_arg8],
      ∀ W : Valuation τ sig (Elt F), after opsLogits W (Proc.devRef .tc r) = W (Proc.devRef .tc r) := fun r h W => (keep_arg W h).1
  have hB : ∀ r ∈ [main_arg0, main_arg1, main_arg2, main_arg3, main_arg4, main_arg5, main_arg6, main_arg7, main_arg8],
      ∀ W : Valuation τ sig (Elt F), after opsScale W (Proc.devRef .tc r) = W (Proc.devRef .tc r) := fun r h W => (keep_arg W h).2.1
  have hC : ∀ r ∈ [main_arg0, main_arg1, main_arg2, main_arg3, main_arg4, main_arg5, main_arg6, main_arg7, main_arg8],
      ∀ W : Valuation τ sig (Elt F), after opsHidden W (Proc.devRef .tc r) = W (Proc.devRef .tc r) := fun r h W => (keep_arg W h).2.2.1
  have hD : ∀ r ∈ [main_arg0, main_arg1, main_arg2, main_arg3, main_arg4, main_arg5, main_arg6, main_arg7, main_arg8],
      ∀ W : Valuation τ sig (Elt F), after opsGelu W (Proc.devRef .tc r) = W (Proc.devRef .tc r) := fun r h W => (keep_arg W h).2.2.2.1
  rw [hD main_arg6 (by decide), hC main_arg6 (by decide), hB main_arg6 (by decide), hA main_arg6 (by decide),
    hD main_arg7 (by decide), hC main_arg7 (by decide), hB main_arg7 (by decide), hA main_arg7 (by decide),
    hB main_arg0 (by decide), hA main_arg0 (by decide), hB main_arg4 (by decide), hA main_arg4 (by decide),
    hB main_arg5 (by decide), hA main_arg5 (by decide)]
  rfl

/-! ## The run -/

/-- From any start the reference ends with `refOut` of its arguments in the result buffer and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun r h c => ⟨(h c main_v56).trans (ops_result _), (h c main_arg0).trans (ops_arg _ (by decide)),
      (h c main_arg1).trans (ops_arg _ (by decide)), (h c main_arg2).trans (ops_arg _ (by decide)),
      (h c main_arg3).trans (ops_arg _ (by decide)), (h c main_arg4).trans (ops_arg _ (by decide)),
      (h c main_arg5).trans (ops_arg _ (by decide)), (h c main_arg6).trans (ops_arg _ (by decide)),
      (h c main_arg7).trans (ops_arg _ (by decide)), (h c main_arg8).trans (ops_arg _ (by decide))⟩)
    (run_seq scopedRefs_eq scopedSems_eq defs main (fun _ => ops) main_eq (fun _ => ops_sub) m ρ (fun _ => ops_fresh))

end Cert.ReferenceIdeal.Value

end
-- ==== Proof.RouterMath.lean ====
/- The router's mathematics, on one token's eight logits `l`: which two experts are the best ones (`Top2`), that a
   maximum and a least-index reduction find them, that a stable sort by "greater first" begins with them, and that the
   softmax over the two best logits gives the weights `w` and `1 − w` with `w = 1 / (1 + exp (l₁ − l₀))`. -/
module

public import Idealize.ShloMosaic.Lib.SortPrefix
public import Idealize.ShloMosaic.Lib.WordCmp
public import Idealize.ShloMosaic.Lib.Pointwise

@[expose] public section

noncomputable section

namespace Cert.RouterMath

open Idealize.ShloMosaic

/-- `i0` is the first expert with the largest logit, `i1` the first with the largest logit among the others. -/
structure Top2 (l : Fin 8 → EReal) (i0 i1 : Fin 8) : Prop where
  ne : i1 ≠ i0
  max0 : ∀ e, l e ≤ l i0
  first0 : ∀ e, e < i0 → l e < l i0
  max1 : ∀ e, e ≠ i0 → l e ≤ l i1
  first1 : ∀ e, e < i1 → e ≠ i0 → l e < l i1

/-- A nonempty set of experts has a first one with the largest logit. -/
theorem exists_first_max (l : Fin 8 → EReal) (s : Finset (Fin 8)) (hs : s.Nonempty) :
    ∃ i ∈ s, (∀ e ∈ s, l e ≤ l i) ∧ ∀ e ∈ s, e < i → l e < l i := by
  obtain ⟨j, hj, hm⟩ := s.exists_max_image l hs
  have hne : (s.filter fun e => l e = l j).Nonempty := ⟨j, by simp [hj]⟩
  obtain ⟨h1, h2⟩ := Finset.mem_filter.mp (Finset.min'_mem _ hne)
  refine ⟨_, h1, fun e he => (hm e he).trans h2.ge, fun e he hlt => ?_⟩
  refine lt_of_le_of_ne ((hm e he).trans h2.ge) fun heq => ?_
  exact absurd (Finset.min'_le _ e (Finset.mem_filter.mpr ⟨he, heq.trans h2⟩)) (not_le.mpr hlt)

/-- Every eight logits have their two best experts. -/
theorem exists_top2 (l : Fin 8 → EReal) : ∃ i0 i1, Top2 l i0 i1 := by
  obtain ⟨i0, -, hm, hf⟩ := exists_first_max l Finset.univ Finset.univ_nonempty
  obtain ⟨i1, h1, hm1, hf1⟩ := exists_first_max l (Finset.univ.erase i0) ⟨i0 + 1, by simp⟩
  exact ⟨i0, i1, Finset.ne_of_mem_erase h1, fun e => hm e (Finset.mem_univ e), fun e => hf e (Finset.mem_univ e),
    fun e he => hm1 e (Finset.mem_erase.mpr ⟨he, Finset.mem_univ e⟩),
    fun e hlt he => hf1 e (Finset.mem_erase.mpr ⟨he, Finset.mem_univ e⟩) hlt⟩

/-! ## Reductions -/

/-- A maximum over the experts is the largest entry. -/
theorem fold_max_eq {n : ℕ} (f : Fin n → EReal) (i : Fin n) (h : ∀ e, f e ≤ f i) : Finset.fold max ⊥ f Finset.univ = f i :=
  le_antisymm ((Finset.fold_max_le (f i)).mpr ⟨bot_le, fun e _ => h e⟩)
    ((Finset.le_fold_max (f i)).mpr (Or.inr ⟨i, Finset.mem_univ i, le_rfl⟩))

/-- The signed minimum of two words is the minimum of their integers. -/
theorem toInt_minsi (x y : BitVec 32) : (IntOp.minsi x y).toInt = min x.toInt y.toInt := by
  unfold IntOp.minsi
  rw [BitVec.slt_eq_decide]
  by_cases h : x.toInt < y.toInt
  · simp [h, le_of_lt h]
  · simp [h, not_lt.mp h]

/-- An expert's index as a word, read back. -/
theorem toInt_ofNat (e : Fin 8) : (BitVec.ofNat 32 (e : ℕ)).toInt = (e : ℤ) := by revert e; decide

/-- The least index satisfying `p`: a signed minimum over the experts of the index where `p` holds and `8` elsewhere. -/
theorem fold_minsi_eq (p : Fin 8 → Prop) [DecidablePred p] (i : Fin 8) (hi : p i) (hf : ∀ e, e < i → ¬ p e) :
    Finset.fold IntOp.minsi 2147483647#32 (fun e : Fin 8 => if p e then BitVec.ofNat 32 (e : ℕ) else 8#32) Finset.univ
      = BitVec.ofNat 32 (i : ℕ) := by
  apply BitVec.toInt_inj.mp
  rw [← Finset.fold_hom (op' := min) (m := BitVec.toInt) toInt_minsi, toInt_ofNat]
  have hlt := i.isLt
  refine le_antisymm ((Finset.fold_min_le _).mpr (Or.inr ⟨i, Finset.mem_univ i, ?_⟩)) ((Finset.le_fold_min _).mpr ⟨?_, fun e _ => ?_⟩)
  · rw [if_pos hi, toInt_ofNat]
  · have : (2147483647#32 : BitVec 32).toInt = 2147483647 := by decide
    omega
  · by_cases he : p e
    · rw [if_pos he, toInt_ofNat]
      have : ¬ e < i := fun h => hf e h he
      omega
    · rw [if_neg he]
      have : (8#32 : BitVec 32).toInt = 8 := by decide
      omega

/-- Two experts' index words are equal when the experts are. -/
theorem ofNat_inj (a b : Fin 8) : BitVec.ofNat 32 (a : ℕ) = BitVec.ofNat 32 (b : ℕ) ↔ a = b := by
  constructor
  · intro h
    have := congrArg BitVec.toInt h
    rw [toInt_ofNat, toInt_ofNat] at this
    exact Fin.ext (by omega)
  · rintro rfl; rfl

/-- A select on the comparison of two experts' index words. -/
theorem select_eq {α : Type} (a b : Fin 8) (x y : α) :
    Scalar.select (IntOp.cmpi CmpIPredicate.eq (BitVec.ofNat 32 (a : ℕ)) (BitVec.ofNat 32 (b : ℕ))) x y
      = if a = b then x else y := by
  rw [WordCmp.cmpi_eq_eq]
  unfold Scalar.select
  by_cases h : a = b
  · simp [h]
  · have := (ofNat_inj a b).not.mpr h
    simp [h, this]

/-- The comparison of two experts' index words as a number. -/
theorem uitofp_eq (a b : Fin 8) :
    (FloatOps.uitofp (F := Ideal) FTy.f32 (IntOp.cmpi CmpIPredicate.eq (BitVec.ofNat 32 (a : ℕ)) (BitVec.ofNat 32 (b : ℕ))) : EReal)
      = if a = b then 1 else 0 := by
  rw [WordCmp.cmpi_eq_eq]
  show ((((BitVec.ofBool _).toNat : ℝ)) : EReal) = _
  by_cases h : a = b
  · simp [h]
  · have := (ofNat_inj a b).not.mpr h
    simp [h, this]

/-! ## The sort -/

/-- A stable sort of increasing positions only ever asks whether a later position is before an earlier one. -/
theorem stableSort_congr_of_lt {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_of_lt R R' h l hl.2]
    exact insertBefore_congr R R' a _ fun b hb => h a b (hl.1 b ((perm_stableSort R' l).mem_iff.mp hb))

/-- The same for the sorted positions. -/
theorem sortedFrom_congr_of_lt {n : ℕ} (R R' : Fin n → Fin n → Bool) (h : ∀ a b, a < b → R b a = R' b a) :
    sortedFrom R = sortedFrom R' := by
  funext k
  unfold sortedFrom sortPositions
  rw [List.get_of_eq (stableSort_congr_of_lt R R' h _ (List.pairwise_lt_finRange n))]
  rfl

/-- "Greater first" on the logits begins with the two best experts. -/
theorem sortedFrom_top2 (l : Fin 8 → EReal) (i0 i1 : Fin 8) (h : Top2 l i0 i1) (k : Fin 2) :
    sortedFrom (fun a b => FloatOps.cmpfTotal (F := Ideal) (φ := .f32) .gt (l a) (l b) == 1#1) (k.castLE (by decide : 2 ≤ 8))
      = (![i0, i1] : Fin 2 → Fin 8) k := by
  classical
  have hg : ∀ x y : EReal, (FloatOps.cmpfTotal (F := Ideal) (φ := .f32) .gt x y == 1#1) = decide (y < x) := fun x y => by
    show (BitVec.ofBool (decide (y < x)) == 1#1) = _
    cases decide (y < x) <;> rfl
  simp only [hg]
  have hB := StrictTotalBefore.of_key_then_position (n := 8) (κ := EReal) (fun x y => decide (y < x)) l (by simp)
    (by simpa using fun a b c (hab : b < a) (hbc : c < b) => lt_trans hbc hab)
    (fun a b => by rcases lt_trichotomy a b with h | h | h <;> simp [h])
  rw [sortedFrom_congr_of_lt (fun a b => decide (l b < l a))
    (fun a b => decide (l b < l a) || (decide (l a = l b) && decide (a < b)))
    (fun a b hab => by simp [not_lt.mpr (le_of_lt hab)])]
  refine hB.sortedFrom_eq_of_prefix (by decide) ![i0, i1] ?_ ?_ ?_ k
  · intro a b hab
    fin_cases a <;> fin_cases b <;> simp_all [h.ne, h.ne.symm]
  · intro a b hab
    fin_cases a <;> fin_cases b <;> simp at hab ⊢
    refine ⟨h.max0 i1, fun he => ?_⟩
    by_contra hlt
    exact absurd he (ne_of_lt (h.first0 i1 (not_le.mp hlt)))
  · intro a p hp
    have hp0 : p ≠ i0 := fun e => hp 0 (by simp [e])
    have hp1 : p ≠ i1 := fun e => hp 1 (by simp [e])
    simp only [Bool.or_eq_false_iff, Bool.and_eq_false_imp, decide_eq_false_iff_not, decide_eq_true_eq, not_lt]
    fin_cases a
    · refine ⟨h.max0 p, fun he => ?_⟩
      by_contra hlt
      exact absurd he (ne_of_lt (h.first0 p (not_le.mp hlt)))
    · refine ⟨h.max1 p hp0, fun he => ?_⟩
      by_contra hlt
      exact absurd he (ne_of_lt (h.first1 p (not_le.mp hlt) hp0))

/-! ## The weights -/

/-- The better expert's weight. -/
def weight (l0 l1 : EReal) : EReal := Ideal.div 1 (1 + Ideal.exp (l1 - l0))

/-- The combine scale of expert `e`. -/
def scale (l : Fin 8 → EReal) (i0 i1 e : Fin 8) : EReal :=
  (if e = i0 then weight (l i0) (l i1) else 0) + (if e = i1 then 1 - weight (l i0) (l i1) else 0)

/-- The softmax over two finite logits, the larger first: its maximum is the first, its numerators `1` and
    `exp (l₁ − l₀)`, its weights `weight` and `1 − weight`. -/
theorem softmax_pair (r0 r1 : ℝ) (hr : r1 ≤ r0) :
    let t : Fin 2 → EReal := ![(r0 : EReal), (r1 : EReal)]
    let p : Fin 2 → EReal := fun k => Ideal.exp (t k - max ⊥ (Finset.fold max ⊥ t Finset.univ))
    Ideal.div (p 0) (∑ k, p k) = weight r0 r1 ∧ Ideal.div (p 1) (∑ k, p k) = 1 - weight r0 r1 := by
  intro t p
  have hm : Finset.fold max ⊥ t Finset.univ = t 0 := fold_max_eq t 0 fun e => by
    fin_cases e
    · exact le_rfl
    · exact EReal.coe_le_coe_iff.mpr hr
  have h0 : p 0 = ((1 : ℝ) : EReal) := by
    show Ideal.exp ((r0 : EReal) - max ⊥ (Finset.fold max ⊥ t Finset.univ)) = _
    rw [hm, max_eq_right bot_le]
    show Ideal.exp ((r0 : EReal) - (r0 : EReal)) = _
    rw [← EReal.coe_sub, sub_self]
    show ((Real.exp 0 : ℝ) : EReal) = _
    rw [Real.exp_zero]
  have h1 : p 1 = ((Real.exp (r1 - r0) : ℝ) : EReal) := by
    show Ideal.exp ((r1 : EReal) - max ⊥ (Finset.fold max ⊥ t Finset.univ)) = _
    rw [hm, max_eq_right bot_le]
    show Ideal.exp ((r1 : EReal) - (r0 : EReal)) = _
    rw [← EReal.coe_sub]
    rfl
  have hpos : (0 : ℝ) < 1 + Real.exp (r1 - r0) := by positivity
  have hw : weight r0 r1 = (((1 : ℝ) / (1 + Real.exp (r1 - r0)) : ℝ) : EReal) := by
    unfold weight
    rw [← EReal.coe_sub]
    show Ideal.div 1 (1 + ((Real.exp (r1 - r0) : ℝ) : EReal)) = _
    rw [← EReal.coe_one, ← EReal.coe_add, Ideal.div_coe hpos.ne', EReal.coe_one, one_mul]
  rw [Fin.sum_univ_two, h0, h1, hw, ← EReal.coe_add, Ideal.div_coe hpos.ne', Ideal.div_coe hpos.ne', EReal.coe_one, one_mul]
  refine ⟨rfl, ?_⟩
  rw [← EReal.coe_one, ← EReal.coe_sub, ← EReal.coe_mul]
  congr 1
  field_simp
  ring

/-- The one-hot sum of the softmax's weights over the two best experts is the combine scale. -/
theorem combine_eq (l : Fin 8 → EReal) (hl : ∀ e, ∃ r : ℝ, l e = r) (i0 i1 e : Fin 8) (h : Top2 l i0 i1) :
    ∑ k : Fin 2, FloatOps.uitofp (F := Ideal) FTy.f32
        (IntOp.cmpi CmpIPredicate.eq (BitVec.ofNat 32 ((![i0, i1] : Fin 2 → Fin 8) k : ℕ)) (BitVec.ofNat 32 (e : ℕ)))
      * Ideal.div (Ideal.exp (l ((![i0, i1] : Fin 2 → Fin 8) k)
            - max ⊥ (Finset.fold max ⊥ (fun k => l ((![i0, i1] : Fin 2 → Fin 8) k)) Finset.univ)))
          (∑ k, Ideal.exp (l ((![i0, i1] : Fin 2 → Fin 8) k)
            - max ⊥ (Finset.fold max ⊥ (fun k => l ((![i0, i1] : Fin 2 → Fin 8) k)) Finset.univ)))
      = scale l i0 i1 e := by
  obtain ⟨r0, h0⟩ := hl i0
  obtain ⟨r1, h1⟩ := hl i1
  have hr : r1 ≤ r0 := by
    have := h.max0 i1
    rw [h0, h1] at this
    exact EReal.coe_le_coe_iff.mp this
  have ht : (fun k => l ((![i0, i1] : Fin 2 → Fin 8) k)) = (![(r0 : EReal), (r1 : EReal)] : Fin 2 → EReal) := by
    funext k
    fin_cases k
    · exact h0
    · exact h1
  have ht' : ∀ k, l ((![i0, i1] : Fin 2 → Fin 8) k) = (![(r0 : EReal), (r1 : EReal)] : Fin 2 → EReal) k := fun k => congrFun ht k
  obtain ⟨w0, w1⟩ := softmax_pair r0 r1 hr
  unfold scale
  simp only [ht, ht', uitofp_eq]
  rw [Fin.sum_univ_two, w0, w1, h0, h1]
  show (if i0 = e then (1 : EReal) else 0) * weight r0 r1 + (if i1 = e then (1 : EReal) else 0) * (1 - weight r0 r1) = _
  congr 1
  · by_cases hi : e = i0
    · simp [hi]
    · simp [hi, Ne.symm hi]
  · by_cases hi : e = i1
    · simp [hi]
    · simp [hi, Ne.symm hi]

/-- Masking the best expert by `⊥` leaves the second best as the first one with the largest entry. -/
theorem masked (l : Fin 8 → EReal) (hl : ∀ e, ∃ r : ℝ, l e = r) (i0 i1 : Fin 8) (h : Top2 l i0 i1) :
    (∀ e, (if e = i0 then ⊥ else l e) ≤ (if i1 = i0 then ⊥ else l i1))
    ∧ ∀ e, e < i1 → (if e = i0 then ⊥ else l e) ≠ l i1 := by
  obtain ⟨r1, h1⟩ := hl i1
  rw [if_neg h.ne]
  refine ⟨fun e => ?_, fun e he => ?_⟩
  · by_cases he : e = i0
    · rw [if_pos he]; exact bot_le
    · rw [if_neg he]; exact h.max1 e he
  · by_cases hi : e = i0
    · rw [if_pos hi, h1]; exact (EReal.coe_ne_bot r1).symm
    · rw [if_neg hi]; exact ne_of_lt (h.first1 e he hi)

end Cert.RouterMath

end
-- ==== Proof.RefValue.lean ====
/- The reference's result at one element, as a closed form of its arguments' entries (`refOut_apply`): the sum over the
   experts of the expert's output scaled by the router's combine scale. -/
module

public import proofs.«01_k».proof.Proof.RefRun
public import proofs.«01_k».proof.Proof.RouterMath
public import Idealize.ShloMosaic.Lib.Pointwise
public import Idealize.ShloMosaic.Lib.Pipeline.Value

@[expose] public section

noncomputable section

namespace Cert.MoeMath

open Idealize.ShloMosaic

/-- One token's logit for one expert: `x` and the scale embedding `s` along the model axis, the expert's router row `w`,
    its router bias `c`. -/
def logit (x s w : Fin 768 → EReal) (c : EReal) : EReal := ∑ k, (x k + s k) * w k + c

/-- One hidden unit before its activation. -/
def hiddenUnit (x w : Fin 768 → EReal) (c : EReal) : EReal := ∑ k, x k * w k + c

/-- The tanh approximation of GELU, at its printed constants. -/
def gelu (h : EReal) : EReal :=
  h * (Ideal.ofBits FTy.f32 0x3F000000#32 *
    (1 + Ideal.tanh (Ideal.ofBits FTy.f32 0x3F4C422A#32 * (h + Ideal.ofBits FTy.f32 0x3D372713#32 * (h * (h * h))))))

/-- One expert's output for one token at one model coordinate. -/
def expert (x : Fin 768 → EReal) (w1 : Fin 768 → Fin 768 → EReal) (c1 : Fin 768 → EReal) (w2 : Fin 768 → EReal) (c2 : EReal) : EReal :=
  ∑ f, gelu (hiddenUnit x (w1 f) (c1 f)) * w2 f + c2

end Cert.MoeMath

namespace Cert.ReferenceIdeal.Value

open Cert.ReferenceIdeal Cert.ReferenceIdeal.Gen Idealize.ShloMosaic Cert.RouterMath Cert.MoeMath

/-- The logits, at an element. -/
theorem refLogits_apply (a0 : (⟨S1x2048x768, .f32⟩ : BufTy).Contents (Elt Ideal)) (a1 : (⟨S10x768, .f32⟩ : BufTy).Contents (Elt Ideal))
    (a2 : (⟨S8x768, .f32⟩ : BufTy).Contents (Elt Ideal)) (a3 : (⟨S8, .f32⟩ : BufTy).Contents (Elt Ideal))
    (a8 : (⟨S_, .i32⟩ : BufTy).Contents (Elt Ideal)) (b : Fin 2048) (e : Fin 8) :
    refLogits (F := Ideal) a0 a1 a2 a3 a8 (ix3 (0 : Fin 1) b e)
      = logit (fun k => a0 (ix3 (0 : Fin 1) b k)) (fun k => refScaleRow (F := Ideal) a1 a8 (ix2 (0 : Fin 1) k))
          (fun k => a2 (ix2 e k)) (a3 (ix1 e)) := by
  pointwise [refLogits]
  rfl

/-- The row of eight that the sort runs along, through a place in it. -/
theorem along_eq (b : Fin 2048) (j : Fin 8) (hd : 2 < S1x2048x8.rank) (a : Fin (S1x2048x8.size ⟨2, hd⟩)) :
    Shape.Idx.along (s := S1x2048x8) (ix3 (0 : Fin 1) b j) ⟨2, hd⟩ a = ix3 (0 : Fin 1) b (a : Fin 8) := by
  funext d
  match d with
  | ⟨0, _⟩ => rfl
  | ⟨1, _⟩ => rfl
  | ⟨2, _⟩ => rfl

/-- A sort of two arrays by their first components along the rows of eight, at an element: both are read at the sorted
    position. -/
theorem sort2_apply (x : S1x2048x8.Idx → EReal) (y : S1x2048x8.Idx → BitVec 32) (b : Fin 2048) (j : Fin 8) :
    (Host.sort2 S1x2048x8 2 (fun l r => FloatOps.cmpfTotal (F := Ideal) (φ := .f32) .gt l.1 r.1) x y).1 (ix3 (0 : Fin 1) b j)
        = x (ix3 (0 : Fin 1) b (sortedFrom (fun a c : Fin 8 => FloatOps.cmpfTotal (F := Ideal) (φ := .f32) .gt
            (x (ix3 (0 : Fin 1) b a)) (x (ix3 (0 : Fin 1) b c)) == 1#1) j))
    ∧ (Host.sort2 S1x2048x8 2 (fun l r => FloatOps.cmpfTotal (F := Ideal) (φ := .f32) .gt l.1 r.1) x y).2 (ix3 (0 : Fin 1) b j)
        = y (ix3 (0 : Fin 1) b (sortedFrom (fun a c : Fin 8 => FloatOps.cmpfTotal (F := Ideal) (φ := .f32) .gt
            (x (ix3 (0 : Fin 1) b a)) (x (ix3 (0 : Fin 1) b c)) == 1#1) j)) := by
  unfold Host.sort2
  rw [dif_pos (by decide : 2 < S1x2048x8.rank)]
  dsimp only
  simp only [along_eq]
  exact ⟨rfl, rfl⟩

/-- The position the sort puts at place `k` of token `b`'s row. -/
abbrev src (L : (⟨S1x2048x8, .f32⟩ : BufTy).Contents (Elt Ideal)) (b : Fin 2048) (k : Fin 2) : Fin 8 :=
  sortedFrom (fun a c => FloatOps.cmpfTotal (F := Ideal) (φ := .f32) .gt (L (ix3 (0 : Fin 1) b a)) (L (ix3 (0 : Fin 1) b c)) == 1#1)
    (k.castLE (by decide : 2 ≤ 8))

/-- The place a slice of the first two reads. -/
theorem slice_apply {α : Type} (x : S1x2048x8.Idx → α) (h : S1x2048x8.Slices (fun _ => 0) S1x2048x2) (b : Fin 2048) (k : Fin 2) :
    extractStridedSlice S1x2048x2 (fun _ => 0) x h (ix3 (0 : Fin 1) b k) = x (ix3 (0 : Fin 1) b (k.castLE (by decide : 2 ≤ 8))) :=
  extractStridedSlice_apply _ x h _ _ fun d => by
    match d with
    | ⟨0, _⟩ => rfl
    | ⟨1, _⟩ => exact (Nat.zero_add _).symm
    | ⟨2, _⟩ => exact (Nat.zero_add _).symm

/-- The positions a top-k carries along its last axis. -/
abbrev positions : S1x2048x8.Idx → BitVec 32 := fun i => if hd : 2 < S1x2048x8.rank then iotaInDim S1x2048x8 32 ⟨2, hd⟩ i else 0#32

/-- The largest logits, at an element: the logit at the sort's source. -/
theorem refTop_apply (L : (⟨S1x2048x8, .f32⟩ : BufTy).Contents (Elt Ideal)) (b : Fin 2048) (k : Fin 2) :
    refTop (F := Ideal) L (ix3 (0 : Fin 1) b k) = L (ix3 (0 : Fin 1) b (src L b k)) :=
  (slice_apply _ sliceFits_S1x2048x8_S1x2048x2 b k).trans (sort2_apply L positions b _).1

/-- Their experts: the sort's source, as a word. -/
theorem refTopIdx_apply (L : (⟨S1x2048x8, .f32⟩ : BufTy).Contents (Elt Ideal)) (b : Fin 2048) (k : Fin 2) :
    refTopIdx (F := Ideal) L (ix3 (0 : Fin 1) b k) = BitVec.ofNat 32 (src L b k : ℕ) :=
  (slice_apply _ sliceFits_S1x2048x8_S1x2048x2 b k).trans (sort2_apply L positions b _).2

/-- The word of negative infinity. -/
theorem ofBits_neg_inf : Ideal.ofBits .f32 0xFF800000#32 = ⊥ := by simp [Ideal.ofBits, Ideal.ieee]

/-- The combine scale, at an element, where the logits are finite. -/
theorem refScale_apply (L : (⟨S1x2048x8, .f32⟩ : BufTy).Contents (Elt Ideal)) (b : Fin 2048) (e i0 i1 : Fin 8)
    (hL : ∀ e : Fin 8, ∃ r : ℝ, L (ix3 (0 : Fin 1) b e) = (r : EReal)) (h : Top2 (fun e => L (ix3 (0 : Fin 1) b e)) i0 i1) :
    refScale (F := Ideal) L (ix3 (0 : Fin 1) b e) = scale (fun e => L (ix3 (0 : Fin 1) b e)) i0 i1 e := by
  pointwise [refScale, refCombine, refWeights, refExp]
  have hs : ∀ k, src L b k = (![i0, i1] : Fin 2 → Fin 8) k := fun k => sortedFrom_top2 _ i0 i1 h k
  simp only [refTop_apply, refTopIdx_apply, hs]
  rw [ofBits_neg_inf]
  exact combine_eq (fun e => L (ix3 (0 : Fin 1) b e)) hL i0 i1 e h

/-- The reference's result, at an element. -/
theorem refOut_apply (a0 : (⟨S1x2048x768, .f32⟩ : BufTy).Contents (Elt Ideal)) (a1 : (⟨S10x768, .f32⟩ : BufTy).Contents (Elt Ideal))
    (a2 : (⟨S8x768, .f32⟩ : BufTy).Contents (Elt Ideal)) (a3 : (⟨S8, .f32⟩ : BufTy).Contents (Elt Ideal))
    (a4 : (⟨S8x768x768, .f32⟩ : BufTy).Contents (Elt Ideal)) (a5 : (⟨S8x768, .f32⟩ : BufTy).Contents (Elt Ideal))
    (a6 : (⟨S8x768x768, .f32⟩ : BufTy).Contents (Elt Ideal)) (a7 : (⟨S8x768, .f32⟩ : BufTy).Contents (Elt Ideal))
    (a8 : (⟨S_, .i32⟩ : BufTy).Contents (Elt Ideal)) (b : Fin 2048) (d : Fin 768) :
    refOut (F := Ideal) a0 a1 a2 a3 a4 a5 a6 a7 a8 (ix3 (0 : Fin 1) b d)
      = ∑ e : Fin 8, expert (fun k => a0 (ix3 (0 : Fin 1) b k)) (fun f k => a4 (ix3 e f k)) (fun f => a5 (ix2 e f))
            (fun f => a6 (ix3 e d f)) (a7 (ix2 e d))
          * refScale (F := Ideal) (refLogits (F := Ideal) a0 a1 a2 a3 a8) (ix3 (0 : Fin 1) b e) := by
  pointwise [refOut, refSum, refGelu, refHidden]
  refine Finset.sum_congr rfl fun e _ => ?_
  congr 1
  unfold expert
  congr 1
  refine Finset.sum_congr rfl fun f _ => ?_
  rw [mul_comm]
  congr 1
  unfold gelu hiddenUnit
  simp only [mul_comm, mul_left_comm]

end Cert.ReferenceIdeal.Value

end
-- ==== Proof.Finite.lean ====
/- What the precondition says, and what it gives: the router's four float inputs are real numbers entry by entry, so the
   reference's logits are real numbers. -/
module

public import proofs.«01_k».proof.Proof.RefValue
public import proofs.«01_k».proof.Proof.Gen.Pre_router_finite
public import Idealize.ShloMosaic.Lib.ReduceAll

@[expose] public section

noncomputable section

namespace Cert.MoeMath

open Idealize.ShloMosaic

/-- A value that is a real number. -/
def IsReal (x : EReal) : Prop := ∃ r : ℝ, x = (r : EReal)

theorem IsReal.add {x y : EReal} : IsReal x → IsReal y → IsReal (x + y) := by
  rintro ⟨r, rfl⟩ ⟨s, rfl⟩
  exact ⟨r + s, (EReal.coe_add r s).symm⟩

theorem IsReal.mul {x y : EReal} : IsReal x → IsReal y → IsReal (x * y) := by
  rintro ⟨r, rfl⟩ ⟨s, rfl⟩
  exact ⟨r * s, (EReal.coe_mul r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- Finite inputs give a finite logit. -/
theorem logit_real (x s w : Fin 768 → EReal) (c : EReal) (hx : ∀ k, IsReal (x k)) (hs : ∀ k, IsReal (s k)) (hw : ∀ k, IsReal (w k))
    (hc : IsReal c) : IsReal (logit x s w c) :=
  (IsReal.sum _ _ fun k => ((hx k).add (hs k)).mul (hw k)).add hc

/-- What the precondition asks of one entry: an absolute value below infinity is that of a real number. -/
theorem real_of_abs_lt (x : Ideal .f32) (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | top => simp at h'
  | coe r => exact ⟨r, rfl⟩

end Cert.MoeMath

namespace Cert.Pre_router_finite

open Cert.Pre_router_finite.Gen Idealize.ShloMosaic Cert.MoeMath

instance : Subsingleton S_.Idx := ⟨fun a b => funext fun d => d.elim0⟩

/-- The precondition, entry by entry. -/
theorem real_of_fn (a0 : FVec Ideal S1x2048x768 .f32) (a1 : FVec Ideal S10x768 .f32) (a2 : FVec Ideal S8x768 .f32) (a3 : FVec Ideal S8 .f32)
    (a4 : FVec Ideal S8x768x768 .f32) (a5 : FVec Ideal S8x768 .f32) (a6 : FVec Ideal S8x768x768 .f32) (a7 : FVec Ideal S8x768 .f32)
    (a8 : IVec S_ 32) (h : fn (F := Ideal) a0 a1 a2 a3 a4 a5 a6 a7 a8 = fun _ => 1#1) :
    (∀ i, IsReal (a0 i)) ∧ (∀ i, IsReal (a1 i)) ∧ (∀ i, IsReal (a2 i)) ∧ ∀ i, IsReal (a3 i) := by
  have h0 := congrFun h (Shape.Idx.first Gen.h_S_)
  obtain ⟨h012, h3⟩ := IntOp.andi_eq_one.mp h0
  obtain ⟨h01, h2⟩ := IntOp.andi_eq_one.mp h012
  obtain ⟨h0, h1⟩ := IntOp.andi_eq_one.mp h01
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i)⟩

end Cert.Pre_router_finite

namespace Cert.ReferenceIdeal.Value

open Cert.ReferenceIdeal Cert.ReferenceIdeal.Gen Idealize.ShloMosaic Cert.MoeMath

/-- Under the precondition's reading the reference's logits are real numbers. -/
theorem refLogits_real (a0 : (⟨S1x2048x768, .f32⟩ : BufTy).Contents (Elt Ideal)) (a1 : (⟨S10x768, .f32⟩ : BufTy).Contents (Elt Ideal))
    (a2 : (⟨S8x768, .f32⟩ : BufTy).Contents (Elt Ideal)) (a3 : (⟨S8, .f32⟩ : BufTy).Contents (Elt Ideal))
    (a8 : (⟨S_, .i32⟩ : BufTy).Contents (Elt Ideal))
    (h0 : ∀ i, IsReal (a0 i)) (h1 : ∀ i, IsReal (a1 i)) (h2 : ∀ i, IsReal (a2 i)) (h3 : ∀ i, IsReal (a3 i)) (b : Fin 2048) (e : Fin 8) :
    IsReal (refLogits (F := Ideal) a0 a1 a2 a3 a8 (ix3 (0 : Fin 1) b e)) := by
  rw [refLogits_apply]
  exact logit_real _ _ _ _ (fun k => h0 _) (fun k => h1 _) (fun k => h2 _) (h3 _)

end Cert.ReferenceIdeal.Value

end
-- ==== Proof.KernelRouter.lean ====
/- The kernel's two block computations at one element, over the extended reals: the router's weights of a row are the
   top-two weights of the row's logits (`routed_apply`), and an expert's share of the output is its value at the row times
   its weight (`share_apply`). -/
module

public import proofs.«01_k».proof.Proof.KernelRead
public import proofs.«01_k».proof.Proof.Finite
public import Idealize.ShloMosaic.Lib.Pointwise

@[expose] public section

noncomputable section

namespace Cert.KernelIdeal.Value

open Cert.KernelIdeal Cert.KernelIdeal.Gen Idealize.ShloMosaic Cert.RouterMath Cert.MoeMath

variable (x : Vec Ideal S2048x768 .f32) (s : Vec Ideal S1x768 .f32) (w : Vec Ideal S8x768 .f32) (c : Vec Ideal S1x8 .f32)

/-- The logits of row `b`, as the kernel computes them. -/
abbrev rowLogits (b : Fin 2048) : Fin 8 → EReal := fun e =>
  logit (fun k => x (ix2 b k)) (fun k => s (ix2 (0 : Fin 1) k)) (fun k => w (ix2 e k)) (c (ix2 (0 : Fin 1) e))

theorem pay3_apply (b : Fin 2048) (e : Fin 8) : k0_pay3 x s w c (ix2 b e) = rowLogits x s w c b e := by
  pointwise [k0_pay3]
  rfl

/-- The word of negative infinity. -/
theorem ofBits_neg_inf : Ideal.ofBits .f32 0xFF800000#32 = ⊥ := by simp [Ideal.ofBits, Ideal.ieee]

variable (b : Fin 2048) (i0 i1 : Fin 8)

/-- The row's maximum is the largest logit. -/
theorem pay4_apply (h : Top2 (rowLogits x s w c b) i0 i1) :
    k0_pay4 x s w c (ix2 b (0 : Fin 1)) = rowLogits x s w c b i0 := by
  pointwise [k0_pay4]
  simp only [pay3_apply]
  rw [ofBits_neg_inf]
  exact fold_max_eq _ i0 h.max0

/-- The index found is the first expert attaining it. -/
theorem pay5_apply (h : Top2 (rowLogits x s w c b) i0 i1) :
    k0_pay5 x s w c (ix2 b (0 : Fin 1)) = BitVec.ofNat 32 (i0 : ℕ) := by
  pointwise [k0_pay5]
  simp only [pay3_apply, pay4_apply x s w c b i0 i1 h]
  exact fold_minsi_eq (fun e => rowLogits x s w c b e = rowLogits x s w c b i0) i0 rfl fun e he => (h.first0 e he).ne

/-- With the first expert masked out. -/
theorem pay6_apply (h : Top2 (rowLogits x s w c b) i0 i1) (e : Fin 8) :
    k0_pay6 x s w c (ix2 b e) = if e = i0 then ⊥ else rowLogits x s w c b e := by
  pointwise [k0_pay6]
  rw [pay3_apply, pay5_apply x s w c b i0 i1 h, ofBits_neg_inf]
  exact select_eq e i0 _ _

variable (hl : ∀ e, ∃ r : ℝ, rowLogits x s w c b e = r)

include hl

/-- The masked row's maximum is the second largest logit. -/
theorem pay7_apply (h : Top2 (rowLogits x s w c b) i0 i1) :
    k0_pay7 x s w c (ix2 b (0 : Fin 1)) = rowLogits x s w c b i1 := by
  pointwise [k0_pay7]
  simp only [pay6_apply x s w c b i0 i1 h]
  rw [ofBits_neg_inf]
  exact (fold_max_eq (fun e => if e = i0 then ⊥ else rowLogits x s w c b e) i1 (masked _ hl i0 i1 h).1).trans (if_neg h.ne)

/-- Its index is the first other expert attaining it. -/
theorem pay8_apply (h : Top2 (rowLogits x s w c b) i0 i1) :
    k0_pay8 x s w c (ix2 b (0 : Fin 1)) = BitVec.ofNat 32 (i1 : ℕ) := by
  pointwise [k0_pay8]
  simp only [pay6_apply x s w c b i0 i1 h, pay7_apply x s w c b i0 i1 hl h]
  exact fold_minsi_eq (fun e => (if e = i0 then ⊥ else rowLogits x s w c b e) = rowLogits x s w c b i1) i1 (if_neg h.ne)
    (masked _ hl i0 i1 h).2

/-- The first expert's weight. -/
theorem pay9_apply (h : Top2 (rowLogits x s w c b) i0 i1) :
    k0_pay9 x s w c (ix2 b (0 : Fin 1)) = weight (rowLogits x s w c b i0) (rowLogits x s w c b i1) := by
  pointwise [k0_pay9]
  rw [pay7_apply x s w c b i0 i1 hl h, pay4_apply x s w c b i0 i1 h]
  rfl

/-- The second expert's weight. -/
theorem pay10_apply (h : Top2 (rowLogits x s w c b) i0 i1) :
    k0_pay10 x s w c (ix2 b (0 : Fin 1)) = 1 - weight (rowLogits x s w c b i0) (rowLogits x s w c b i1) := by
  pointwise [k0_pay10]
  rw [pay9_apply x s w c b i0 i1 hl h]

/-- The weights the router writes for row `b`: those of the two largest logits, zero elsewhere. -/
theorem routed_apply (h : Top2 (rowLogits x s w c b) i0 i1) (e : Fin 8) :
    routed x s w c (ix2 b e) = scale (rowLogits x s w c b) i0 i1 e := by
  have hx : k0_pay12 x = x := by unfold k0_pay12; exact shapeCast_self ..
  unfold routed
  rw [hx]
  pointwise [k0_pay13, k0_pay11]
  rw [pay8_apply x s w c b i0 i1 hl h, pay5_apply x s w c b i0 i1 h, pay9_apply x s w c b i0 i1 hl h,
    pay10_apply x s w c b i0 i1 hl h, select_eq, select_eq]
  rfl

omit hl

/-- Expert `e`'s share of the output at an element: the expert's value times its weight for the row. -/
theorem share_apply (i : grid0.Coords) (e : Fin 8) (he : (i 0).val = e.val) (w1 : Vec Ideal S1x768x768 .f32) (c1 : Vec Ideal S1x1x768 .f32)
    (w2 : Vec Ideal S1x768x768 .f32) (c2 : Vec Ideal S1x1x768 .f32) (sc : Vec Ideal S2048x8 .f32) (d : Fin 768) :
    share i x w1 c1 w2 c2 sc (ix2 b d)
      = expert (fun k => x (ix2 b k)) (fun f k => w1 (ix3 (0 : Fin 1) f k)) (fun f => c1 (ix3 (0 : Fin 1) (0 : Fin 1) f))
          (fun f => w2 (ix3 (0 : Fin 1) d f)) (c2 (ix3 (0 : Fin 1) (0 : Fin 1) d)) * sc (ix2 b e) := by
  have hs : ∑ j : Fin 8, Scalar.select (IntOp.cmpi .eq (BitVec.ofNat 32 (j : ℕ)) (BitVec.ofNat 32 (e : ℕ))) (sc (ix2 b j)) (0 : EReal)
      = sc (ix2 b e) := by
    simp only [select_eq]
    exact (Finset.sum_ite_eq' Finset.univ e _).trans (if_pos (Finset.mem_univ e))
  rw [← hs]
  unfold share
  pointwise [k0_pay1, k0_pay14, k0_pay12, k0_pay15]
  rw [he]
  rfl

end Cert.KernelIdeal.Value

end
-- ==== Proof.KernelHost.lean ====
/- What the kernel's region finds in the buffers that the host operations before it write: the input as rows, the row of
   the scale embedding table that `scale_idx` names, and three arrays given one more axis. -/
module

public import proofs.«01_k».proof.Proof.Gen.KernelIdeal.Frame
public import Idealize.ShloMosaic.Lib.StableHlo.Run
public import Idealize.ShloMosaic.Lib.StableHlo.RunRead

@[expose] public section

noncomputable section

namespace Cert.KernelIdeal.Value

open Cert.KernelIdeal Cert.KernelIdeal.Gen Idealize.ShloMosaic Idealize.ShloMosaic.TcCoe Idealize.ShloMosaic.StableHlo Idealize.SL.Sem

variable {F : FTy → Type} [FloatOps F]

/-- The row of the scale embedding table the kernel is given: `scale_idx` counted from the end when negative, then clamped
    to the table. -/
def scaleRow (a1 : (⟨S10x768, .f32⟩ : BufTy).Contents (Elt F)) (a8 : (⟨S_, .i32⟩ : BufTy).Contents (Elt F)) :
    (⟨S1x768, .f32⟩ : BufTy).Contents (Elt F) :=
  Host.dynamicSlice S1x768 a1
    (fun k => (((![select (cmpi .slt a8 (constantI S_ 32 0#32)) (addi a8 (constantI S_ 32 10#32)) a8, constantI S_ 32 0#32]
      : Fin 2 → (⟨S_, .i32⟩ : BufTy).Contents (Elt F)) k) (Shape.Idx.first h_S_)).toInt) sliceFits_S10x768_S1x768

variable (m : (ℓ : Loc nD τ sig) → Buf (Elt F) ℓ) (c : Dev nD)

theorem V_v0 : V m c main_v0 = shapeCast S2048x768 (m (c.tc.loc main_arg0)) shapeCasts_S1x2048x768_S2048x768 := by
  show after hostOps0 _ _ = _
  after_reads_simp
  rfl

theorem V_v4 : V m c main_v4 = scaleRow (m (c.tc.loc main_arg1)) (m (c.tc.loc main_arg8)) := by
  show after hostOps0 _ _ = _
  after_reads_simp [unaryIndexed_result_read, indexContents_cons, indexContents_empty]
  rfl

theorem V_v5 : V m c main_v5 = shapeCast S1x8 (m (c.tc.loc main_arg3)) shapeCasts_S8_S1x8 := by
  show after hostOps0 _ _ = _
  after_reads_simp
  rfl

theorem V_v6 : V m c main_v6 = shapeCast S8x1x768 (m (c.tc.loc main_arg5)) shapeCasts_S8x768_S8x1x768 := by
  show after hostOps0 _ _ = _
  after_reads_simp
  rfl

theorem V_v7 : V m c main_v7 = shapeCast S8x1x768 (m (c.tc.loc main_arg7)) shapeCasts_S8x768_S8x1x768 := by
  show after hostOps0 _ _ = _
  after_reads_simp
  rfl

end Cert.KernelIdeal.Value

end
-- ==== Proof.KernelBlocks.lean ====
/- The kernel's input blocks at one element, as entries of the program's arguments: the first four windows hold whole
   arrays at every grid point, the last four hold, at point `t`, expert `t`'s slab. -/
module

public import proofs.«01_k».proof.Proof.KernelHost
public import Idealize.ShloMosaic.Lib.Pointwise
public import Idealize.ShloMosaic.Lib.Pipeline.Value
public import Idealize.ShloMosaic.Lib.ValueLayout

@[expose] public section

noncomputable section

namespace Cert.KernelIdeal.Value

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- The whole-array windows stay at block 0. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The experts' windows are at block `t`. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-! ## The blocks as entries of the region's arrays -/

theorem iblk0_V (t : Fin cfg0.N) (i : Fin 2048) (j : Fin 768) :
    iblk m c 0 t (ix2 i j) = V m c main_v0 (ix2 i j) := by
  show V m c main_v0 (((cfg0.win 0).blk t).view.emb (ix2 i j)) = _
  congr 1
  obtain ⟨e0, e1⟩ := idx0 t
  funext a
  apply Fin.ext
  match a with
  | ⟨0, _⟩ => show win0_0.index t (0 : Fin 2) * 2048 + 1 * i.val = i.val; omega
  | ⟨1, _⟩ => show win0_0.index t (1 : Fin 2) * 768 + 1 * j.val = j.val; omega

theorem iblk1_V (t : Fin cfg0.N) (i : Fin 1) (j : Fin 768) :
    iblk m c 1 t (ix2 i j) = V m c main_v4 (ix2 i j) := by
  show V m c main_v4 (((cfg0.win 1).blk t).view.emb (ix2 i j)) = _
  congr 1
  obtain ⟨e0, e1⟩ := idx1 t
  funext a
  apply Fin.ext
  match a with
  | ⟨0, _⟩ => show win0_1.index t (0 : Fin 2) * 1 + 1 * i.val = i.val; omega
  | ⟨1, _⟩ => show win0_1.index t (1 : Fin 2) * 768 + 1 * j.val = j.val; omega

theorem iblk2_V (t : Fin cfg0.N) (i : Fin 8) (j : Fin 768) :
    iblk m c 2 t (ix2 i j) = V m c main_arg2 (ix2 i j) := by
  show V m c main_arg2 (((cfg0.win 2).blk t).view.emb (ix2 i j)) = _
  congr 1
  obtain ⟨e0, e1⟩ := idx2 t
  funext a
  apply Fin.ext
  match a with
  | ⟨0, _⟩ => show win0_2.index t (0 : Fin 2) * 8 + 1 * i.val = i.val; omega
  | ⟨1, _⟩ => show win0_2.index t (1 : Fin 2) * 768 + 1 * j.val = j.val; omega

theorem iblk3_V (t : Fin cfg0.N) (i : Fin 1) (j : Fin 8) :
    iblk m c 3 t (ix2 i j) = V m c main_v5 (ix2 i j) := by
  show V m c main_v5 (((cfg0.win 3).blk t).view.emb (ix2 i j)) = _
  congr 1
  obtain ⟨e0, e1⟩ := idx3 t
  funext a
  apply Fin.ext
  match a with
  | ⟨0, _⟩ => show win0_3.index t (0 : Fin 2) * 1 + 1 * i.val = i.val; omega
  | ⟨1, _⟩ => show win0_3.index t (1 : Fin 2) * 8 + 1 * j.val = j.val; omega

theorem iblk4_V (t : Fin cfg0.N) (e : Fin 8) (he : t.val = e.val) (i : Fin 768) (j : Fin 768) :
    iblk m c 4 t (ix3 (0 : Fin 1) i j) = V m c main_arg4 (ix3 e i j) := by
  show V m c main_arg4 (((cfg0.win 4).blk t).view.emb (ix3 (0 : Fin 1) i j)) = _
  congr 1
  obtain ⟨e0, e1, e2⟩ := idx4 t
  funext a
  apply Fin.ext
  match a with
  | ⟨0, _⟩ => show win0_4.index t (0 : Fin 3) * 1 + 1 * 0 = e.val; omega
  | ⟨1, _⟩ => show win0_4.index t (1 : Fin 3) * 768 + 1 * i.val = i.val; omega
  | ⟨2, _⟩ => show win0_4.index t (2 : Fin 3) * 768 + 1 * j.val = j.val; omega

theorem iblk5_V (t : Fin cfg0.N) (e : Fin 8) (he : t.val = e.val) (i : Fin 1) (j : Fin 768) :
    iblk m c 5 t (ix3 (0 : Fin 1) i j) = V m c main_v6 (ix3 e i j) := by
  show V m c main_v6 (((cfg0.win 5).blk t).view.emb (ix3 (0 : Fin 1) i j)) = _
  congr 1
  obtain ⟨e0, e1, e2⟩ := idx5 t
  funext a
  apply Fin.ext
  match a with
  | ⟨0, _⟩ => show win0_5.index t (0 : Fin 3) * 1 + 1 * 0 = e.val; omega
  | ⟨1, _⟩ => show win0_5.index t (1 : Fin 3) * 1 + 1 * i.val = i.val; omega
  | ⟨2, _⟩ => show win0_5.index t (2 : Fin 3) * 768 + 1 * j.val = j.val; omega

theorem iblk6_V (t : Fin cfg0.N) (e : Fin 8) (he : t.val = e.val) (i : Fin 768) (j : Fin 768) :
    iblk m c 6 t (ix3 (0 : Fin 1) i j) = V m c main_arg6 (ix3 e i j) := by
  show V m c main_arg6 (((cfg0.win 6).blk t).view.emb (ix3 (0 : Fin 1) i j)) = _
  congr 1
  obtain ⟨e0, e1, e2⟩ := idx6 t
  funext a
  apply Fin.ext
  match a with
  | ⟨0, _⟩ => show win0_6.index t (0 : Fin 3) * 1 + 1 * 0 = e.val; omega
  | ⟨1, _⟩ => show win0_6.index t (1 : Fin 3) * 768 + 1 * i.val = i.val; omega
  | ⟨2, _⟩ => show win0_6.index t (2 : Fin 3) * 768 + 1 * j.val = j.val; omega

theorem iblk7_V (t : Fin cfg0.N) (e : Fin 8) (he : t.val = e.val) (i : Fin 1) (j : Fin 768) :
    iblk m c 7 t (ix3 (0 : Fin 1) i j) = V m c main_v7 (ix3 e i j) := by
  show V m c main_v7 (((cfg0.win 7).blk t).view.emb (ix3 (0 : Fin 1) i j)) = _
  congr 1
  obtain ⟨e0, e1, e2⟩ := idx7 t
  funext a
  apply Fin.ext
  match a with
  | ⟨0, _⟩ => show win0_7.index t (0 : Fin 3) * 1 + 1 * 0 = e.val; omega
  | ⟨1, _⟩ => show win0_7.index t (1 : Fin 3) * 1 + 1 * i.val = i.val; omega
  | ⟨2, _⟩ => show win0_7.index t (2 : Fin 3) * 768 + 1 * j.val = j.val; omega

/-! ## The blocks as entries of the arguments -/

theorem iblk0_apply (t : Fin cfg0.N) (i : Fin 2048) (j : Fin 768) :
    iblk m c 0 t (ix2 i j) = m (c.tc.loc main_arg0) (ix3 (0 : Fin 1) i j) := by
  rw [iblk0_V, V_v0]
  exact Idealize.ShloMosaic.ValueIdx.shapeCast_1ab_ab_apply ..

theorem iblk1_apply (t : Fin cfg0.N) (j : Fin 768) :
    iblk m c 1 t (ix2 (0 : Fin 1) j) = scaleRow (m (c.tc.loc main_arg1)) (m (c.tc.loc main_arg8)) (ix2 (0 : Fin 1) j) := by
  rw [iblk1_V, V_v4]

theorem iblk2_apply (t : Fin cfg0.N) (i : Fin 8) (j : Fin 768) :
    iblk m c 2 t (ix2 i j) = m (c.tc.loc main_arg2) (ix2 i j) := by
  rw [iblk2_V, V_main_arg2]

theorem iblk3_apply (t : Fin cfg0.N) (j : Fin 8) :
    iblk m c 3 t (ix2 (0 : Fin 1) j) = m (c.tc.loc main_arg3) (ix1 j) := by
  rw [iblk3_V, V_v5]
  pointwise []

theorem iblk4_apply (t : Fin cfg0.N) (e : Fin 8) (he : t.val = e.val) (i : Fin 768) (j : Fin 768) :
    iblk m c 4 t (ix3 (0 : Fin 1) i j) = m (c.tc.loc main_arg4) (ix3 e i j) := by
  rw [iblk4_V m c t e he, V_main_arg4]

theorem iblk5_apply (t : Fin cfg0.N) (e : Fin 8) (he : t.val = e.val) (j : Fin 768) :
    iblk m c 5 t (ix3 (0 : Fin 1) (0 : Fin 1) j) = m (c.tc.loc main_arg5) (ix2 e j) := by
  rw [iblk5_V m c t e he, V_v6]
  pointwise []

theorem iblk6_apply (t : Fin cfg0.N) (e : Fin 8) (he : t.val = e.val) (i : Fin 768) (j : Fin 768) :
    iblk m c 6 t (ix3 (0 : Fin 1) i j) = m (c.tc.loc main_arg6) (ix3 e i j) := by
  rw [iblk6_V m c t e he, V_main_arg6]

theorem iblk7_apply (t : Fin cfg0.N) (e : Fin 8) (he : t.val = e.val) (j : Fin 768) :
    iblk m c 7 t (ix3 (0 : Fin 1) (0 : Fin 1) j) = m (c.tc.loc main_arg7) (ix2 e j) := by
  rw [iblk7_V m c t e he, V_v7]
  pointwise []

/-- The point's coordinate is its number. -/
theorem coord_val : ∀ t : Fin cfg0.N, (grid0.coords t 0).val = t.val := (by decide +kernel : ∀ t : Fin grid0.N, _)

end Cert.KernelIdeal.Value

end
-- ==== Proof.KernelPoints.lean ====
/- What the kernel's output and scratch hold after a grid point, as values of the point's blocks and of what the point
   before left. -/
module

public import proofs.«01_k».proof.Proof.KernelRead

@[expose] public section

noncomputable section

namespace Cert.KernelIdeal.Value

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD) (t : Fin cfg0.N)

/-! ## The blocks at point `t`, as arrays of their shapes -/

abbrev blkX : Vec F S2048x768 .f32 := iblk m c 0 t
abbrev blkS : Vec F S1x768 .f32 := iblk m c 1 t
abbrev blkWr : Vec F S8x768 .f32 := iblk m c 2 t
abbrev blkBr : Vec F S1x8 .f32 := iblk m c 3 t
abbrev blkW1 : Vec F S1x768x768 .f32 := iblk m c 4 t
abbrev blkB1 : Vec F S1x1x768 .f32 := iblk m c 5 t
abbrev blkW2 : Vec F S1x768x768 .f32 := iblk m c 6 t
abbrev blkB2 : Vec F S1x1x768 .f32 := iblk m c 7 t

/-- The router's weights, from the blocks at point `t`. -/
def routedAt : Vec F S2048x8 .f32 := routed (blkX m c t) (blkS m c t) (blkWr m c t) (blkBr m c t)

/-- Expert `t`'s share of the output, from the blocks at point `t` and the weights `sc`. -/
def shareAt (sc : Vec F S2048x8 .f32) : Vec F S2048x768 .f32 :=
  share (grid0.coords t) (blkX m c t) (blkW1 m c t) (blkB1 m c t) (blkW2 m c t) (blkB2 m c t) sc

/-- The first point leaves the first share and the weights. -/
theorem outs_A (h : t.val = 0) : outsAt0 m c t.val t.isLt = (shareAt m c t (routedAt m c t), routedAt m c t) := by
  rw [outsAt0_A m c t (by omega) (by omega) (by omega), out_A, sout_A]
  rfl

/-- A later point adds its share and keeps the weights. -/
theorem outs_B (h : 1 ≤ t.val) (h8 : t.val < 8) (hp : t.val - 1 < cfg0.N) :
    outsAt0 m c t.val t.isLt
      = (addf (outsAt0 m c (t.val - 1) hp).1 (shareAt m c t (outsAt0 m c (t.val - 1) hp).2), (outsAt0 m c (t.val - 1) hp).2) := by
  rw [outsAt0_B m c t (by omega) (by omega) h, out_B]
  rfl

end Cert.KernelIdeal.Value

end
-- ==== Proof.KernelValue.lean ====
/- What the kernel's output holds after each grid point, at one element: the shares of the experts so far (`outs_apply`). -/
module

public import proofs.«01_k».proof.Proof.KernelRouter
public import proofs.«01_k».proof.Proof.KernelBlocks
public import proofs.«01_k».proof.Proof.KernelPoints

@[expose] public section

noncomputable section

namespace Cert.KernelIdeal.Value

open Cert.KernelIdeal Cert.KernelIdeal.Gen Idealize.ShloMosaic Idealize.ShloMosaic.TcCoe Idealize.SL.Sem Cert.RouterMath Cert.MoeMath

variable (m : (ℓ : Loc nD τ sig) → Buf (Elt Ideal) ℓ) (c : Dev nD)

/-- The logits of row `b`, from the program's arguments. -/
abbrev argLogits (b : Fin 2048) : Fin 8 → EReal := fun e =>
  logit (fun k => m (c.tc.loc main_arg0) (ix3 (0 : Fin 1) b k))
    (fun k => scaleRow (F := Ideal) (m (c.tc.loc main_arg1)) (m (c.tc.loc main_arg8)) (ix2 (0 : Fin 1) k))
    (fun k => m (c.tc.loc main_arg2) (ix2 e k)) (m (c.tc.loc main_arg3) (ix1 e))

/-- Expert `e`'s value at row `b` and column `d`, from the program's arguments. -/
abbrev argExpert (b : Fin 2048) (d : Fin 768) (e : Fin 8) : EReal :=
  expert (fun k => m (c.tc.loc main_arg0) (ix3 (0 : Fin 1) b k)) (fun f k => m (c.tc.loc main_arg4) (ix3 e f k))
    (fun f => m (c.tc.loc main_arg5) (ix2 e f)) (fun f => m (c.tc.loc main_arg6) (ix3 e d f)) (m (c.tc.loc main_arg7) (ix2 e d))

/-- The logits computed from a point's blocks are those of the arguments. -/
theorem rowLogits_blk (t : Fin cfg0.N) (b : Fin 2048) :
    rowLogits (blkX m c t) (blkS m c t) (blkWr m c t) (blkBr m c t) b = argLogits m c b := by
  funext e
  have h0 : (fun k : Fin 768 => blkX m c t (ix2 b k)) = fun k => m (c.tc.loc main_arg0) (ix3 (0 : Fin 1) b k) :=
    funext fun k => iblk0_apply m c t b k
  have h1 : (fun k : Fin 768 => blkS m c t (ix2 (0 : Fin 1) k))
      = fun k => scaleRow (F := Ideal) (m (c.tc.loc main_arg1)) (m (c.tc.loc main_arg8)) (ix2 (0 : Fin 1) k) :=
    funext fun k => iblk1_apply m c t k
  have h2 : (fun k : Fin 768 => blkWr m c t (ix2 e k)) = fun k => m (c.tc.loc main_arg2) (ix2 e k) :=
    funext fun k => iblk2_apply m c t e k
  have h3 : blkBr m c t (ix2 (0 : Fin 1) e) = m (c.tc.loc main_arg3) (ix1 e) := iblk3_apply m c t e
  show logit (fun k => blkX m c t (ix2 b k)) (fun k => blkS m c t (ix2 (0 : Fin 1) k)) (fun k => blkWr m c t (ix2 e k))
    (blkBr m c t (ix2 (0 : Fin 1) e)) = _
  rw [h0, h1, h2, h3]

/-- The share computed from point `t`'s blocks is expert `t`'s value times the weight in its column. -/
theorem shareAt_apply (t : Fin cfg0.N) (e : Fin 8) (he : t.val = e.val) (sc : Vec Ideal S2048x8 .f32) (b : Fin 2048) (d : Fin 768) :
    shareAt m c t sc (ix2 b d) = argExpert m c b d e * sc (ix2 b e) := by
  have h0 : (fun k : Fin 768 => blkX m c t (ix2 b k)) = fun k => m (c.tc.loc main_arg0) (ix3 (0 : Fin 1) b k) :=
    funext fun k => iblk0_apply m c t b k
  have h4 : (fun f k : Fin 768 => blkW1 m c t (ix3 (0 : Fin 1) f k)) = fun f k => m (c.tc.loc main_arg4) (ix3 e f k) :=
    funext fun f => funext fun k => iblk4_apply m c t e he f k
  have h5 : (fun f : Fin 768 => blkB1 m c t (ix3 (0 : Fin 1) (0 : Fin 1) f)) = fun f => m (c.tc.loc main_arg5) (ix2 e f) :=
    funext fun f => iblk5_apply m c t e he f
  have h6 : (fun f : Fin 768 => blkW2 m c t (ix3 (0 : Fin 1) d f)) = fun f => m (c.tc.loc main_arg6) (ix3 e d f) :=
    funext fun f => iblk6_apply m c t e he d f
  have h7 : blkB2 m c t (ix3 (0 : Fin 1) (0 : Fin 1) d) = m (c.tc.loc main_arg7) (ix2 e d) := iblk7_apply m c t e he d
  unfold shareAt
  rw [share_apply _ b _ e ((coord_val t).trans he), h0, h4, h5, h6, h7]

/-- The weights of row `b`, for the row's two largest logits. -/
theorem routedAt_apply (t : Fin cfg0.N) (b : Fin 2048) (i0 i1 : Fin 8) (hl : ∀ e, ∃ r : ℝ, argLogits m c b e = r)
    (h : Top2 (argLogits m c b) i0 i1) (e : Fin 8) :
    routedAt m c t (ix2 b e) = scale (argLogits m c b) i0 i1 e := by
  have hr := rowLogits_blk m c t b
  rw [← hr] at hl h ⊢
  unfold routedAt
  exact routed_apply _ _ _ _ b i0 i1 hl h e

/-- Expert `k`'s share at row `b` and column `d`, nothing past the last expert. -/
def part (b : Fin 2048) (d : Fin 768) (i0 i1 : Fin 8) (k : ℕ) : EReal :=
  if hk : k < 8 then argExpert m c b d ⟨k, hk⟩ * scale (argLogits m c b) i0 i1 ⟨k, hk⟩ else 0

/-- After point `n` the output holds the shares of the experts up to `n`, and the scratch the router's weights. -/
theorem outs_apply (b : Fin 2048) (i0 i1 : Fin 8) (hl : ∀ e, ∃ r : ℝ, argLogits m c b e = r) (h : Top2 (argLogits m c b) i0 i1)
    (n : ℕ) : ∀ (hn : n < cfg0.N),
      (∀ d, (outsAt0 m c n hn).1 (ix2 b d) = ∑ k ∈ Finset.range (n + 1), part m c b d i0 i1 k)
      ∧ ∀ e, (outsAt0 m c n hn).2 (ix2 b e) = scale (argLogits m c b) i0 i1 e := by
  induction n with
  | zero =>
    intro hn
    rw [show outsAt0 m c 0 hn = _ from outs_A m c ⟨0, hn⟩ rfl]
    refine ⟨fun d => ?_, fun e => routedAt_apply m c ⟨0, hn⟩ b i0 i1 hl h e⟩
    rw [Finset.sum_range_one]
    refine (shareAt_apply m c ⟨0, hn⟩ 0 rfl _ b d).trans ?_
    rw [routedAt_apply m c ⟨0, hn⟩ b i0 i1 hl h]
    unfold part
    rw [dif_pos (by decide)]
    rfl
  | succ n ih =>
    intro hn
    have h8 : n + 1 < 8 := by have : cfg0.N = 8 := N_0; omega
    obtain ⟨ih1, ih2⟩ := ih (Nat.lt_of_succ_lt hn)
    rw [show outsAt0 m c (n + 1) hn = _ from outs_B m c ⟨n + 1, hn⟩ (Nat.succ_pos n) h8 (Nat.lt_of_succ_lt hn)]
    refine ⟨fun d => ?_, fun e => ih2 e⟩
    rw [Finset.sum_range_succ, ← ih1 d]
    refine congrArg (fun z : EReal => (outsAt0 m c n (Nat.lt_of_succ_lt hn)).1 (ix2 b d) + z) ?_
    refine (shareAt_apply m c ⟨n + 1, hn⟩ ⟨n + 1, h8⟩ rfl _ b d).trans ?_
    unfold part
    rw [dif_pos h8]
    exact congrArg (fun z : EReal => argExpert m c b d ⟨n + 1, h8⟩ * z) (ih2 _)

end Cert.KernelIdeal.Value

end
-- ==== Proof.KernelRun.lean ====
/- The kernel program's run: its result buffer ends holding, under a leading unit axis, what its output holds after the last
   grid point, and its arguments are unchanged. -/
module

public import proofs.«01_k».proof.Proof.Gen.KernelIdeal.Frame
public import Idealize.ShloMosaic.Lib.Pipeline.Value
public import Idealize.ShloMosaic.Lib.StableHlo.RunRead

@[expose] public section

noncomputable section

namespace Cert.KernelIdeal.Value

open Cert.KernelIdeal Cert.KernelIdeal.Gen Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- What the output holds after the last point. -/
abbrev lastOut : Buf (Elt F) ((c.tc : Thread nD τ).loc main_v8) := (outsAt0 m c 7 (by rw [show cfg0.N = 8 from N_0]; decide)).1

/-- The output's one block is block 0. -/
theorem idx8 : ∀ t : Fin cfg0.N, win0_8.index t (0 : Fin 2) = 0 ∧ win0_8.index t (1 : Fin 2) = 0 :=
  (by decide +kernel : ∀ t : Fin grid0.N, _)

/-- A place in it is the same place of the array. -/
theorem emb8 (t : Fin cfg0.N) (y : S2048x768.Idx) : ((cfg0.win 8).blk t).view.emb y = y := by
  obtain ⟨e0, e1⟩ := idx8 t
  funext a
  apply Fin.ext
  match a with
  | ⟨0, _⟩ => show win0_8.index t (0 : Fin 2) * 2048 + 1 * (y 0).val = (y 0).val; omega
  | ⟨1, _⟩ => show win0_8.index t (1 : Fin 2) * 768 + 1 * (y 1).val = (y 1).val; omega

/-- The one write-back, at point 7, writes what the output holds then. -/
theorem flushed8 (t : Fin cfg0.N) (hf : (cfg0.win 8).flush t = true) :
    (dats m 0 c).flushed 8 t = ((cfg0.win 8).blk t).view.read (Elt F) (lastOut m c) := by
  have h7 : t.val = 7 := by
    have h := (flush0_8 t).mp hf
    have hN : cfg0.N = 8 := N_0
    have := t.isLt
    omega
  obtain rfl : t = t0_7 := Fin.ext h7
  show (cfg0.win 8).cut (grid0.coords t0_7) ((dats m 0 c).after 8 t0_7) = _
  rw [after0_8]
  funext y
  show lastOut m c y = lastOut m c (((cfg0.win 8).blk t0_7).view.emb y)
  rw [emb8]

/-- So the output array ends holding it. -/
theorem final8 : (dats m 0 c).arrAt 8 cfg0.N = lastOut m c :=
  (dats m 0 c).arrAt_eq_of_cover 8 (lastOut m c) (flushed8 m c) fun i =>
    ⟨t0_7, (flush0_8 t0_7).mpr rfl, by
      have h := ((cfg0.win 8).blk t0_7).view.emb_mem_set i
      rwa [emb8] at h⟩

/-- The line after the region gives the array a leading unit axis. -/
theorem after_v9 : Pipeline.afterTail₀ cfgs (dats m) 0 (V0 m) [hostOps1] c main_v9
    = shapeCast S1x2048x768 (lastOut m c) shapeCasts_S2048x768_S1x2048x768 := by
  unfold Pipeline.afterTail₀
  have h : ∀ W : Valuation τ sig (Elt F), after hostOps1 W (Proc.devRef .tc main_v9)
      = shapeCast S1x2048x768 (W (Proc.devRef .tc main_v8)) shapeCasts_S2048x768_S1x2048x768 := fun W => by
    after_reads_simp
    rfl
  refine (h _).trans (congrArg (fun z => shapeCast S1x2048x768 z shapeCasts_S2048x768_S1x2048x768) ?_)
  refine Eq.trans ?_ (final8 m c)
  exact Pipeline.withArrays_arr spec0 (by decide) c (V0 m c) (fun w => (dats m 0 c).arrAt w cfg0.N) 8

/-- The run, read. -/
theorem run : θ_run defs (onTc (τ := τ) (main (F := F))) ⟨m, fun _ => 0, ρ⟩ fun r => ∀ c : Dev nD,
      r.2.mem ((c.tc : Thread nD τ).loc main_v9) = shapeCast S1x2048x768 (lastOut m c) shapeCasts_S2048x768_S1x2048x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v9 (Pipeline.mem_restRefs_of main_v9 (by decide) (by decide))).trans (after_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Value

end
-- ==== Proof.Equation.lean ====
/- The equation: on the same arguments, with the router's inputs real numbers, what the kernel program leaves in its result
   buffer is what the reference computes (`result_eq`). -/
module

public import proofs.«01_k».proof.Proof.KernelValue
public import proofs.«01_k».proof.Proof.KernelRun
public import proofs.«01_k».proof.Proof.Finite
public import Idealize.ShloMosaic.Lib.ValueLayout

@[expose] public section

noncomputable section

namespace Cert.Equation

open Cert.KernelIdeal Cert.KernelIdeal.Value Idealize.ShloMosaic Idealize.ShloMosaic.TcCoe Idealize.SL.Sem
open Cert.RouterMath Cert.MoeMath
open Cert.ReferenceIdeal.Value (refOut refScale refLogits refScaleRow refOut_apply refScale_apply refLogits_apply refLogits_real)

/-- Both programs add the same row of the scale embedding table. -/
theorem scaleRow_eq (a1 : (⟨S10x768, .f32⟩ : BufTy).Contents (Elt Ideal)) (a8 : (⟨S_, .i32⟩ : BufTy).Contents (Elt Ideal)) :
    scaleRow (F := Ideal) a1 a8 = refScaleRow (F := Ideal) a1 a8 := by
  have hz : (select (cmpi .slt (constantI S_ 32 0#32) (constantI S_ 32 0#32)) (addi (constantI S_ 32 0#32) (constantI S_ 32 768#32))
      (constantI S_ 32 0#32) : IVec S_ 32) = constantI S_ 32 0#32 := by
    funext i; rfl
  unfold scaleRow refScaleRow
  rw [hz]

variable (m : (ℓ : Loc nD τ sig) → Buf (Elt Ideal) ℓ) (c : Dev nD)

/-- The reference's logits, of the kernel program's arguments. -/
abbrev L := refLogits (F := Ideal) (m (c.tc.loc main_arg0)) (m (c.tc.loc main_arg1)) (m (c.tc.loc main_arg2))
  (m (c.tc.loc main_arg3)) (m (c.tc.loc main_arg8))

/-- A token's logits are the same in both programs. -/
theorem logits_eq (b : Fin 2048) : (fun e : Fin 8 => L m c (ix3 (0 : Fin 1) b e)) = argLogits m c b := by
  funext e
  unfold L argLogits
  rw [refLogits_apply, ← scaleRow_eq]

/-- The two results are the same array. -/
theorem result_eq
    (h0 : ∀ i, IsReal (m (c.tc.loc main_arg0) i)) (h1 : ∀ i, IsReal (m (c.tc.loc main_arg1) i))
    (h2 : ∀ i, IsReal (m (c.tc.loc main_arg2) i)) (h3 : ∀ i, IsReal (m (c.tc.loc main_arg3) i)) :
    shapeCast S1x2048x768 (lastOut m c) Cert.KernelIdeal.Gen.shapeCasts_S2048x768_S1x2048x768
      = refOut (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) := by
  funext i
  obtain ⟨u, b, d, rfl⟩ : ∃ (u : Fin 1) (b : Fin 2048) (d : Fin 768), i = ix3 u b d := ⟨i 0, i 1, i 2, eq_ix3 i⟩
  obtain rfl : u = 0 := Subsingleton.elim _ _
  have hL : ∀ e : Fin 8, ∃ r : ℝ, L m c (ix3 (0 : Fin 1) b e) = (r : EReal) := fun e => refLogits_real _ _ _ _ _ h0 h1 h2 h3 b e
  have hl : ∀ e : Fin 8, ∃ r : ℝ, argLogits m c b e = (r : EReal) := fun e => by
    have h := hL e
    rwa [show L m c (ix3 (0 : Fin 1) b e) = argLogits m c b e from congrFun (logits_eq m c b) e] at h
  obtain ⟨i0, i1, h⟩ := exists_top2 (argLogits m c b)
  have hT : Top2 (fun e : Fin 8 => L m c (ix3 (0 : Fin 1) b e)) i0 i1 := by rw [logits_eq]; exact h
  refine (ValueIdx.shapeCast_ab_1ab_apply _ _ _ _ _).trans ?_
  refine ((outs_apply m c b i0 i1 hl h 7 _).1 d).trans ?_
  rw [refOut_apply, Finset.sum_range]
  refine Finset.sum_congr rfl fun e _ => ?_
  rw [refScale_apply _ b e i0 i1 hL hT, logits_eq]
  unfold part
  rw [dif_pos e.isLt]

end Cert.Equation

end
-- ==== Proof.lean ====
/- The certificate of the mixture-of-experts kernel: both readings of the kernel and the reference run to the end, keep their
   arguments and leave every semaphore at zero; and over the extended reals the kernel and the reference compute the same
   array whenever the router's inputs are finite. The generated frames give the kernel's runs, `RefRun` the reference's,
   `KernelRun` and `KernelValue` what the kernel computes, `RefValue` what the reference computes, `Equation` that the two
   are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_router_finite
public import proofs.«01_k».proof.Proof.Equation
public import Idealize.ShloMosaic.Adequacy
public import Idealize.ShloMosaic.Init

@[expose] public section

noncomputable section

namespace Cert.Proof

open Idealize.ShloMosaic Idealize.SL.Sem

/-- The reference runs, keeps its arguments and has no semaphore to leave raised. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run m ρ)

/-- Over the extended reals, with the router's inputs finite, the kernel leaves what the reference leaves. -/
theorem algebraic : Cert.algebraic_KernelIdeal_ReferenceIdeal_pre_router_finite (hKernelIdeal := Cert.KernelIdeal.Gen.facts)
    (hReferenceIdeal := Cert.ReferenceIdeal.Gen.facts) (hPre_router_finite := Cert.Pre_router_finite.Gen.facts) := by
  intro m ρ m' ρ' hpre hagree
  refine ⟨fun c => shapeCast Cert.KernelIdeal.S1x2048x768 (Cert.KernelIdeal.Value.lastOut m c)
      Cert.KernelIdeal.Gen.shapeCasts_S2048x768_S1x2048x768, Cert.KernelIdeal.Value.run m ρ, ?_⟩
  refine (θ_run Cert.ReferenceIdeal.defs _ _).mono (fun r h c => ⟨(h c).1.trans ?_, (h c).2⟩) (Cert.ReferenceIdeal.Value.run m' ρ')
  obtain ⟨h0, h1, h2, h3, h4, h5, h6, h7, h8⟩ := hagree c
  obtain ⟨r0, r1, r2, r3⟩ := Cert.Pre_router_finite.real_of_fn _ _ _ _ _ _ _ _ _ (hpre c)
  rw [h0, h1, h2, h3, h4, h5, h6, h7, h8]
  exact (Cert.Equation.result_eq m c r0 r1 r2 r3).symm

/-- The five claims, those about frames once more under the precondition. -/
theorem claim : Cert.Claim :=
  ⟨Cert.Kernel.Gen.facts, Cert.KernelIdeal.Gen.facts, Cert.ReferenceIdeal.Gen.facts, Cert.Pre_router_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, algebraic⟩

end Cert.Proof

end
